-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "scale" .f32 0x3CB504F3#32 (((Real.sqrt 2048)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x2048x2048 : Shape := ⟨3, ![2, 2048, 2048]⟩
abbrev S2048x2048 : Shape := ⟨2, ![2048, 2048]⟩
abbrev S2048 : Shape := ⟨1, ![2048]⟩
abbrev S1x2048 : Shape := ⟨2, ![1, 2048]⟩
abbrev S1x256x2048 : Shape := ⟨3, ![1, 256, 2048]⟩
abbrev S256x2048 : Shape := ⟨2, ![256, 2048]⟩
abbrev S2x256x2048 : Shape := ⟨3, ![2, 256, 2048]⟩

abbrev nBuf : Space → Nat
  | .hbm => 9
  | .vmem => 19
  | .smem => 0
  | _ => 0

abbrev bufTy : (tb : Table) → Fin (tcTables nBuf tb) → BufTy
  | .hbm, ⟨0, _⟩ => ⟨S2x2048x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S1x2048, .f32⟩
  | .hbm, ⟨6, _⟩ => ⟨S1x2048, .f32⟩
  | .hbm, ⟨7, _⟩ => ⟨S2x2048x2048, .f32⟩
  | .hbm, ⟨8, _⟩ => ⟨S2x2048x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S1x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S2048x2048, .bf16⟩
  | .local _ .vmem, ⟨15, _⟩ => ⟨S2048x2048, .bf16⟩
  | .local _ .vmem, ⟨16, _⟩ => ⟨S2048x2048, .bf16⟩
  | .local _ .vmem, ⟨17, _⟩ => ⟨S2x256x2048, .bf16⟩
  | .local _ .vmem, ⟨18, _⟩ => ⟨S2x256x2048, .bf16⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![5, 10], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c8_i32 : BitVec 32 := 8#32
  let v1 : BitVec 1 := Scalar.cmpi .slt arg1 c8_i32
  let v2 : BitVec 1 := Scalar.andi v0 v1
  let v3 : BitVec 32 := Scalar.extui v2
  let c0_i32_0 : BitVec 32 := 0#32
  let v4 : BitVec 1 := Scalar.cmpi .ne v3 c0_i32_0
  v4

def k0_off1 (i : grid0.Coords) : Fin 2 → Nat :=
  let arg1 : BitVec 32 := BitVec.ofNat 32 (i 1).val
  let c256_i32 : BitVec 32 := 256#32
  let v24 : BitVec 32 := Scalar.muli arg1 c256_i32
  let v25 : Index := Scalar.indexCast v24
  let c0_8 : Index := 0#32
  ![v25.toNat, 0]
def k0_cond2 (i : grid0.Coords) : BitVec 1 :=
  let arg0 : BitVec 32 := BitVec.ofNat 32 (i 0).val
  let c1_i32 : BitVec 32 := 1#32
  let v5 : BitVec 1 := Scalar.cmpi .eq arg0 c1_i32
  let c3_i32 : BitVec 32 := 3#32
  let v6 : BitVec 1 := Scalar.cmpi .eq arg0 c3_i32
  let v7 : BitVec 1 := Scalar.ori v5 v6
  let arg1 : BitVec 32 := BitVec.ofNat 32 (i 1).val
  let c8_i32_1 : BitVec 32 := 8#32
  let v8 : BitVec 1 := Scalar.cmpi .slt arg1 c8_i32_1
  let v9 : BitVec 1 := Scalar.andi v7 v8
  let v10 : BitVec 32 := Scalar.extui v9
  let c0_i32_2 : BitVec 32 := 0#32
  let v11 : BitVec 1 := Scalar.cmpi .ne v10 c0_i32_2
  v11

def k0_off2 (i : grid0.Coords) : Fin 2 → Nat :=
  let arg1 : BitVec 32 := BitVec.ofNat 32 (i 1).val
  let c256_i32 : BitVec 32 := 256#32
  let v32 : BitVec 32 := Scalar.muli arg1 c256_i32
  let v33 : Index := Scalar.indexCast v32
  let c0_13 : Index := 0#32
  ![v33.toNat, 0]
def k0_cond3 (i : grid0.Coords) : BitVec 1 :=
  let arg0 : BitVec 32 := BitVec.ofNat 32 (i 0).val
  let c1_i32_3 : BitVec 32 := 1#32
  let v12 : BitVec 1 := Scalar.cmpi .eq arg0 c1_i32_3
  let arg1 : BitVec 32 := BitVec.ofNat 32 (i 1).val
  let c8_i32_4 : BitVec 32 := 8#32
  let v13 : BitVec 1 := Scalar.cmpi .slt arg1 c8_i32_4
  let v14 : BitVec 1 := Scalar.andi v12 v13
  let v15 : BitVec 32 := Scalar.extui v14
  let c0_i32_5 : BitVec 32 := 0#32
  let v16 : BitVec 1 := Scalar.cmpi .ne v15 c0_i32_5
  v16

def k0_off3 (i : grid0.Coords) : Fin 2 → Nat :=
  let arg1 : BitVec 32 := BitVec.ofNat 32 (i 1).val
  let c256_i32 : BitVec 32 := 256#32
  let v24 : BitVec 32 := Scalar.muli arg1 c256_i32
  let v25 : Index := Scalar.indexCast v24
  let c0_8 : Index := 0#32
  ![v25.toNat, 0]
def k0_cond4 (i : grid0.Coords) : BitVec 1 :=
  let arg0 : BitVec 32 := BitVec.ofNat 32 (i 0).val
  let c2_i32 : BitVec 32 := 2#32
  let v17 : BitVec 1 := Scalar.cmpi .eq arg0 c2_i32
  let c4_i32 : BitVec 32 := 4#32
  let v18 : BitVec 1 := Scalar.cmpi .eq arg0 c4_i32
  let v19 : BitVec 1 := Scalar.ori v17 v18
  let v20 : BitVec 32 := Scalar.extui v19
  let c0_i32_6 : BitVec 32 := 0#32
  let v21 : BitVec 1 := Scalar.cmpi .ne v20 c0_i32_6
  v21

def k0_cond5 (i : grid0.Coords) : BitVec 1 :=
  let arg1 : BitVec 32 := BitVec.ofNat 32 (i 1).val
  let c8_i32_7 : BitVec 32 := 8#32
  let v22 : BitVec 1 := Scalar.cmpi .slt arg1 c8_i32_7
  let v23 : BitVec 32 := Scalar.extui v22
  let c0_i32_8 : BitVec 32 := 0#32
  let v24 : BitVec 1 := Scalar.cmpi .ne v23 c0_i32_8
  v24

def k0_off4 (i : grid0.Coords) : Fin 3 → Nat :=
  let arg1 : BitVec 32 := BitVec.ofNat 32 (i 1).val
  let c2_i32_21 : BitVec 32 := 2#32
  let c0_i32_22 : BitVec 32 := 0#32
  let v46 : BitVec 1 := Scalar.cmpi .eq c2_i32_21 c0_i32_22
  let c1_i32_23 : BitVec 32 := 1#32
  let v47 : BitVec 32 := Scalar.select v46 c1_i32_23 c2_i32_21
  let v48 : BitVec 32 := Scalar.remsi arg1 v47
  let c0_i32_25 : BitVec 32 := 0#32
  let v50 : BitVec 1 := Scalar.cmpi .slt v48 c0_i32_25
  let c0_i32_26 : BitVec 32 := 0#32
  let v51 : BitVec 1 := Scalar.cmpi .slt v47 c0_i32_26
  let v52 : BitVec 1 := Scalar.xori v50 v51
  let c0_i32_24 : BitVec 32 := 0#32
  let v49 : BitVec 1 := Scalar.cmpi .ne v48 c0_i32_24
  let v53 : BitVec 1 := Scalar.andi v52 v49
  let v54 : BitVec 32 := Scalar.addi v48 v47
  let v55 : BitVec 32 := Scalar.select v53 v54 v48
  let v56 : Index := Scalar.indexCast v55
  let c0_27 : Index := 0#32
  let c0_28 : Index := 0#32
  ![v56.toNat, 0, 0]
def k0_cond6 (i : grid0.Coords) : BitVec 1 :=
  let arg1 : BitVec 32 := BitVec.ofNat 32 (i 1).val
  let c1_i32_9 : BitVec 32 := 1#32
  let v25 : BitVec 1 := Scalar.cmpi .sge arg1 c1_i32_9
  let c8_i32_10 : BitVec 32 := 8#32
  let v26 : BitVec 1 := Scalar.cmpi .sle arg1 c8_i32_10
  let v27 : BitVec 1 := Scalar.andi v25 v26
  let v28 : BitVec 32 := Scalar.extui v27
  let c0_i32_11 : BitVec 32 := 0#32
  let v29 : BitVec 1 := Scalar.cmpi .ne v28 c0_i32_11
  v29

def k0_off5 (i : grid0.Coords) : Fin 3 → Nat :=
  let arg1 : BitVec 32 := BitVec.ofNat 32 (i 1).val
  let c1_i32_14 : BitVec 32 := 1#32
  let v33 : BitVec 32 := Scalar.subi arg1 c1_i32_14
  let c2_i32_15 : BitVec 32 := 2#32
  let c0_i32_16 : BitVec 32 := 0#32
  let v34 : BitVec 1 := Scalar.cmpi .eq c2_i32_15 c0_i32_16
  let c1_i32_17 : BitVec 32 := 1#32
  let v35 : BitVec 32 := Scalar.select v34 c1_i32_17 c2_i32_15
  let v36 : BitVec 32 := Scalar.remsi v33 v35
  let c0_i32_19 : BitVec 32 := 0#32
  let v38 : BitVec 1 := Scalar.cmpi .slt v36 c0_i32_19
  let c0_i32_20 : BitVec 32 := 0#32
  let v39 : BitVec 1 := Scalar.cmpi .slt v35 c0_i32_20
  let v40 : BitVec 1 := Scalar.xori v38 v39
  let c0_i32_18 : BitVec 32 := 0#32
  let v37 : BitVec 1 := Scalar.cmpi .ne v36 c0_i32_18
  let v41 : BitVec 1 := Scalar.andi v40 v37
  let v42 : BitVec 32 := Scalar.addi v36 v35
  let v43 : BitVec 32 := Scalar.select v41 v42 v36
  let v44 : Index := Scalar.indexCast v43
  let c0 : Index := 0#32
  let c0_21 : Index := 0#32
  ![v44.toNat, 0, 0]
def k0_cond7 (i : grid0.Coords) : BitVec 1 :=
  let arg1 : BitVec 32 := BitVec.ofNat 32 (i 1).val
  let c2_i32_12 : BitVec 32 := 2#32
  let v30 : BitVec 1 := Scalar.cmpi .sge arg1 c2_i32_12
  let v31 : BitVec 32 := Scalar.extui v30
  let c0_i32_13 : BitVec 32 := 0#32
  let v32 : BitVec 1 := Scalar.cmpi .ne v31 c0_i32_13
  v32

def k0_off6 (i : grid0.Coords) : Fin 3 → Nat :=
  let arg1 : BitVec 32 := BitVec.ofNat 32 (i 1).val
  let c2_i32_14 : BitVec 32 := 2#32
  let c0_i32_15 : BitVec 32 := 0#32
  let v33 : BitVec 1 := Scalar.cmpi .eq c2_i32_14 c0_i32_15
  let c1_i32_16 : BitVec 32 := 1#32
  let v34 : BitVec 32 := Scalar.select v33 c1_i32_16 c2_i32_14
  let v35 : BitVec 32 := Scalar.remsi arg1 v34
  let c0_i32_18 : BitVec 32 := 0#32
  let v37 : BitVec 1 := Scalar.cmpi .slt v35 c0_i32_18
  let c0_i32_19 : BitVec 32 := 0#32
  let v38 : BitVec 1 := Scalar.cmpi .slt v34 c0_i32_19
  let v39 : BitVec 1 := Scalar.xori v37 v38
  let c0_i32_17 : BitVec 32 := 0#32
  let v36 : BitVec 1 := Scalar.cmpi .ne v35 c0_i32_17
  let v40 : BitVec 1 := Scalar.andi v39 v36
  let v41 : BitVec 32 := Scalar.addi v35 v34
  let v42 : BitVec 32 := Scalar.select v40 v41 v35
  let v43 : Index := Scalar.indexCast v42
  let c0 : Index := 0#32
  let c0_20 : Index := 0#32
  ![v43.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.subi arg0 c1_i32
  let c2_i32 : BitVec 32 := 2#32
  let v2 : BitVec 32 := Scalar.divsi v1 c2_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let v19 : BitVec 32 := Scalar.select v0 c0_i32_6 v18
  let c1_i32_7 : BitVec 32 := 1#32
  let v20 : BitVec 1 := Scalar.cmpi .eq arg0 c1_i32_7
  let c3_i32 : BitVec 32 := 3#32
  let v21 : BitVec 1 := Scalar.cmpi .eq arg0 c3_i32
  let v22 : BitVec 1 := Scalar.ori v20 v21
  let c7_i32 : BitVec 32 := 7#32
  let v23 : BitVec 32 := Scalar.minsi arg1 c7_i32
  let c0_i32_8 : BitVec 32 := 0#32
  let v24 : BitVec 1 := Scalar.cmpi .eq arg0 c0_i32_8
  let c0_i32_9 : BitVec 32 := 0#32
  let c7_i32_10 : BitVec 32 := 7#32
  let v25 : BitVec 32 := Scalar.select v24 c0_i32_9 c7_i32_10
  let v26 : BitVec 32 := Scalar.select v22 v23 v25
  let c0_i32_11 : BitVec 32 := 0#32
  let c0_i32_12 : BitVec 32 := 0#32
  ![v19.toNat, v26.toNat, c0_i32_11.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .sle arg0 c2_i32
  let c0_i32 : BitVec 32 := 0#32
  let c1_i32 : BitVec 32 := 1#32
  let v1 : BitVec 32 := Scalar.select v0 c0_i32 c1_i32
  let c2_i32_0 : BitVec 32 := 2#32
  let v2 : BitVec 1 := Scalar.cmpi .eq arg0 c2_i32_0
  let c4_i32 : BitVec 32 := 4#32
  let v3 : BitVec 1 := Scalar.cmpi .eq arg0 c4_i32
  let v4 : BitVec 1 := Scalar.ori v2 v3
  let c7_i32 : BitVec 32 := 7#32
  let v5 : BitVec 32 := Scalar.minsi arg1 c7_i32
  let c0_i32_1 : BitVec 32 := 0#32
  let v6 : BitVec 32 := Scalar.select v4 v5 c0_i32_1
  let c0_i32_2 : BitVec 32 := 0#32
  let c0_i32_3 : BitVec 32 := 0#32
  ![v1.toNat, v6.toNat, c0_i32_2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 1 := Scalar.cmpi .eq arg0 c1_i32
  let c7_i32 : BitVec 32 := 7#32
  let v2 : BitVec 32 := Scalar.minsi arg1 c7_i32
  let c7_i32_0 : BitVec 32 := 7#32
  let v3 : BitVec 32 := Scalar.select v1 v2 c7_i32_0
  let c0_i32_1 : BitVec 32 := 0#32
  let v4 : BitVec 32 := Scalar.select v0 c0_i32_1 v3
  let c0_i32_2 : BitVec 32 := 0#32
  let c0_i32_3 : BitVec 32 := 0#32
  ![v4.toNat, c0_i32_2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.minsi arg1 c7_i32
  let c7_i32_0 : BitVec 32 := 7#32
  let v2 : BitVec 32 := Scalar.select v0 v1 c7_i32_0
  let c0_i32_1 : BitVec 32 := 0#32
  let c0_i32_2 : BitVec 32 := 0#32
  ![v2.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg0 c4_i32
  let c0_i32 : BitVec 32 := 0#32
  let c1_i32 : BitVec 32 := 1#32
  let v1 : BitVec 32 := Scalar.select v0 c0_i32 c1_i32
  let c2_i32 : BitVec 32 := 2#32
  let v2 : BitVec 1 := Scalar.cmpi .eq arg0 c2_i32
  let c4_i32_0 : BitVec 32 := 4#32
  let v3 : BitVec 1 := Scalar.cmpi .eq arg0 c4_i32_0
  let v4 : BitVec 1 := Scalar.ori v2 v3
  let c2_i32_1 : BitVec 32 := 2#32
  let v5 : BitVec 32 := Scalar.subi arg1 c2_i32_1
  let c0_i32_2 : BitVec 32 := 0#32
  let c7_i32 : BitVec 32 := 7#32
  let v6 : BitVec 32 := Scalar.maxsi c0_i32_2 v5
  let v7 : BitVec 32 := Scalar.minsi c7_i32 v6
  let c3_i32 : BitVec 32 := 3#32
  let v8 : BitVec 1 := Scalar.cmpi .eq arg0 c3_i32
  let c7_i32_3 : BitVec 32 := 7#32
  let c0_i32_4 : BitVec 32 := 0#32
  let v9 : BitVec 32 := Scalar.select v8 c7_i32_3 c0_i32_4
  let v10 : BitVec 32 := Scalar.select v4 v7 v9
  let c0_i32_5 : BitVec 32 := 0#32
  let c0_i32_6 : BitVec 32 := 0#32
  ![v1.toNat, v10.toNat, c0_i32_5.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg0 c4_i32
  let c0_i32 : BitVec 32 := 0#32
  let c1_i32 : BitVec 32 := 1#32
  let v1 : BitVec 32 := Scalar.select v0 c0_i32 c1_i32
  let c2_i32 : BitVec 32 := 2#32
  let v2 : BitVec 1 := Scalar.cmpi .eq arg0 c2_i32
  let c4_i32_0 : BitVec 32 := 4#32
  let v3 : BitVec 1 := Scalar.cmpi .eq arg0 c4_i32_0
  let v4 : BitVec 1 := Scalar.ori v2 v3
  let c2_i32_1 : BitVec 32 := 2#32
  let v5 : BitVec 32 := Scalar.subi arg1 c2_i32_1
  let c0_i32_2 : BitVec 32 := 0#32
  let c7_i32 : BitVec 32 := 7#32
  let v6 : BitVec 32 := Scalar.maxsi c0_i32_2 v5
  let v7 : BitVec 32 := Scalar.minsi c7_i32 v6
  let c3_i32 : BitVec 32 := 3#32
  let v8 : BitVec 1 := Scalar.cmpi .eq arg0 c3_i32
  let c7_i32_3 : BitVec 32 := 7#32
  let c0_i32_4 : BitVec 32 := 0#32
  let v9 : BitVec 32 := Scalar.select v8 c7_i32_3 c0_i32_4
  let v10 : BitVec 32 := Scalar.select v4 v7 v9
  let c0_i32_5 : BitVec 32 := 0#32
  let c0_i32_6 : BitVec 32 := 0#32
  ![v1.toNat, v10.toNat, c0_i32_5.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "scale" => some (((Real.sqrt 2048)⁻¹ : ℝ) : EReal)
  | _ => none
-- ==== ReferenceIdeal.lean ====
abbrev S2x2048x2048 : Shape := ⟨3, ![2, 2048, 2048]⟩
abbrev S2048x2048 : Shape := ⟨2, ![2048, 2048]⟩
abbrev S2048 : Shape := ⟨1, ![2048]⟩
abbrev S1x1x2048 : Shape := ⟨3, ![1, 1, 2048]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2x2048x2048, .f32⟩
  | .hbm, ⟨7, _⟩ => ⟨S1x1x2048, .f32⟩
  | .hbm, ⟨8, _⟩ => ⟨S2x2048x2048, .f32⟩
  | .hbm, ⟨9, _⟩ => ⟨S2x2048x2048, .f32⟩
  | .hbm, ⟨10, _⟩ => ⟨S2048x2048, .f32⟩
  | .hbm, ⟨11, _⟩ => ⟨S2x2048x2048, .f32⟩
  | .hbm, ⟨12, _⟩ => ⟨S1x1x2048, .f32⟩
  | .hbm, ⟨13, _⟩ => ⟨S2x2048x2048, .f32⟩
  | .hbm, ⟨14, _⟩ => ⟨S2x2048x2048, .f32⟩
  | .hbm, ⟨15, _⟩ => ⟨S2x2048x2048, .f32⟩
  | .hbm, ⟨16, _⟩ => ⟨S2x2048x2048, .f32⟩
  | .hbm, ⟨17, _⟩ => ⟨S_, .f32⟩
  | .hbm, ⟨18, _⟩ => ⟨S_, .f32⟩
  | .hbm, ⟨19, _⟩ => ⟨S2x2048x2048, .f32⟩
  | .hbm, ⟨20, _⟩ => ⟨S2x2048x2048, .f32⟩
  | .hbm, ⟨21, _⟩ => ⟨S2x2048x2048, .f32⟩
  | .hbm, ⟨22, _⟩ => ⟨S_, .f32⟩
  | .hbm, ⟨23, _⟩ => ⟨S2x2048x2048, .f32⟩
  | .hbm, ⟨24, _⟩ => ⟨S2x2048x2048, .i1⟩
  | .hbm, ⟨25, _⟩ => ⟨S_, .f32⟩
  | .hbm, ⟨26, _⟩ => ⟨S2x2048x2048, .f32⟩
  | .hbm, ⟨27, _⟩ => ⟨S2x2048x2048, .f32⟩
  | .hbm, ⟨28, _⟩ => ⟨S_, .f32⟩
  | .hbm, ⟨29, _⟩ => ⟨S2x2048x2048, .f32⟩
  | .hbm, ⟨30, _⟩ => ⟨S2x2048x2048, .i1⟩
  | .hbm, ⟨31, _⟩ => ⟨S_, .f32⟩
  | .hbm, ⟨32, _⟩ => ⟨S2x2048x2048, .f32⟩
  | .hbm, ⟨33, _⟩ => ⟨S2x2048x2048, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== Proof.KI.Body.lean ====
/-
  What one grid point of the idealized kernel does to the buffers it holds: eight staging buffers (six inputs, two outputs) and the
  five scratch buffers carried from point to point. Which of the kernel's conditional stores happen is given by hypotheses
  on the point; each theorem below is one combination of them.
-/
module

public import proofs.«01_k».proof.Proof.Gen.KernelIdeal.Frame
public import proofs.«01_k».proof.Proof.Gen.KernelIdeal.Skeleton
public import Idealize.ShloMosaic.Lib.Tactic
public import Idealize.ShloMosaic.Lib.VecWindow

@[expose] public section

set_option maxRecDepth 16384

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

/-- The proof's resource algebra. -/
local notation "𝕄" => MT nD τ sig Unit (Elt F) ℕ (UR sig nD τ) ℕ

/-- No variants: the kernel has no loop to bound. -/
abbrev 𝒱₀ : Variants := Variants.none

/-! ## The slots of the two-slot scratch buffers -/

/-- The queries are stored in slot `j % 2`. -/
theorem off4_eq : ∀ i : grid0.Coords, k0_off4 i = ![(i 1).val % 2, 0, 0] := by decide +kernel
/-- The scores are computed from, and stored in, slot `(j - 1) % 2`. -/
theorem off5_eq : ∀ i : grid0.Coords, k0_off5 i = ![((i 1).val + 1) % 2, 0, 0] := by decide +kernel
/-- The outputs are computed from slot `j % 2` of the scores. -/
theorem off6_eq : ∀ i : grid0.Coords, k0_off6 i = ![(i 1).val % 2, 0, 0] := by decide +kernel
/-- The slot written with queries, as numbers. -/
instance closedOff4 (i : grid0.Coords) : ClosedOff (k0_off4 i) := ⟨![(i 1).val % 2, 0, 0], off4_eq i⟩
/-- The slot of the point before, as numbers. -/
instance closedOff5 (i : grid0.Coords) : ClosedOff (k0_off5 i) := ⟨![((i 1).val + 1) % 2, 0, 0], off5_eq i⟩
/-- The slot read for the outputs, as numbers. -/
instance closedOff6 (i : grid0.Coords) : ClosedOff (k0_off6 i) := ⟨![(i 1).val % 2, 0, 0], off6_eq i⟩

/-- Slot `k % 2` lies inside the two-slot buffer. -/
theorem inb_slot (k : ℕ) : ∀ a, (![k % 2, 0, 0] : Fin 3 → ℕ) a + S1x256x2048.size a ≤ S2x256x2048.size a := by
  have hk : k % 2 < 2 := Nat.mod_lt _ (by decide)
  intro a
  fin_cases a
  · show k % 2 + 1 ≤ 2; omega
  · show 0 + 256 ≤ 256; omega
  · show 0 + 2048 ≤ 2048; omega

/-- Slot `k % 2` of a two-slot buffer. -/
def slot {α : Type} (x : S2x256x2048.Idx → α) (k : ℕ) : S1x256x2048.Idx → α :=
  VecWindow.window x ![k % 2, 0, 0] S1x256x2048.size (inb_slot k)

/-- The two-slot buffer with `w` put in slot `k % 2`. -/
def setSlot {α : Type} (x : S2x256x2048.Idx → α) (k : ℕ) (w : S1x256x2048.Idx → α) : S2x256x2048.Idx → α :=
  VecWindow.put x ![k % 2, 0, 0] S1x256x2048.size w

/-- The square buffer with `w` put over its rows `256 j ‥ 256 j + 255`. -/
def setRows {α : Type} (x : S2048x2048.Idx → α) (j : ℕ) (w : S256x2048.Idx → α) : S2048x2048.Idx → α :=
  VecWindow.put x ![256 * j, 0] S256x2048.size w

/-- What was just put in a slot is what the slot holds. -/
theorem slot_setSlot_same {α : Type} (x : S2x256x2048.Idx → α) (k : ℕ) (w : S1x256x2048.Idx → α) : slot (setSlot x k w) k = w :=
  VecWindow.window_put_same x _ _ (inb_slot k) w

/-- The other slot is untouched. -/
theorem slot_setSlot_ne {α : Type} (x : S2x256x2048.Idx → α) (k k' : ℕ) (w : S1x256x2048.Idx → α) (h : k % 2 ≠ k' % 2) :
    slot (setSlot x k w) k' = slot x k' :=
  VecWindow.window_put_of_disjoint x _ _ _ _ (inb_slot k') w (0 : Fin 3) (by
    show k' % 2 + 1 ≤ k % 2 ∨ k % 2 + 1 ≤ k' % 2
    omega)

/-- The contents of the buffers the kernel holds at a point: the six input blocks, the two output blocks, and the five
    scratch buffers (the two rounded weight matrices, the keys, two slots of queries, two slots of scores). -/
structure St (F : FTy → Type) where
  x2 : Vec F S1x256x2048 .f32
  x3 : Vec F S1x256x2048 .f32
  x4 : Vec F S256x2048 .f32
  x5 : Vec F S256x2048 .f32
  x6 : Vec F S1x2048 .f32
  x7 : Vec F S1x2048 .f32
  a : Vec F S1x256x2048 .f32
  p : Vec F S1x256x2048 .f32
  wq : Vec F S2048x2048 .bf16
  wk : Vec F S2048x2048 .bf16
  kk : Vec F S2048x2048 .bf16
  qs : Vec F S2x256x2048 .bf16
  ss : Vec F S2x256x2048 .bf16

/-! ## Loads and stores by values -/

section Access

variable {κ : Kind} {sp : Space}

/-- A load of a whole buffer that holds `x` reads `x`. -/
theorem load_full {t : Shape} {e : EltTy} {v : View sig κ sp t e} {f : v.ty.Contents (Elt F)} {x : t.Idx → Elt F e} {off : Fin t.rank → ℕ}
    (inb : ∀ a, off a + t.size a ≤ t.size a) (h : v.read (Elt F) f = x) :
    v.readAt (Elt F) (Rect.unit off t.size inb).toLoadRect f = x :=
  (View.readAt_full v f inb).trans h

/-- A store over a whole buffer leaves what was stored. -/
theorem writes_full {t : Shape} {e : EltTy} {v : View sig κ sp t e} {f : v.ty.Contents (Elt F)} {off : Fin t.rank → ℕ}
    (inb : ∀ a, off a + t.size a ≤ t.size a) {w w' : t.Idx → Elt F e} (hw : w = w') :
    v.read (Elt F) (v.writes (Elt F) f [⟨Rect.unit off t.size inb, w⟩]) = w' :=
  (View.read_writes_full v f inb w []).trans hw

/-- A load of slot `k % 2` of a two-slot buffer that holds `x`. -/
theorem load_slot {v : View sig κ sp S2x256x2048 .bf16} {f : v.ty.Contents (Elt F)} {x : Vec F S2x256x2048 .bf16} {off : Fin 3 → ℕ} {k : ℕ}
    {inb : ∀ a, off a + S1x256x2048.size a ≤ S2x256x2048.size a} (ho : off = ![k % 2, 0, 0]) (h : v.read (Elt F) f = x) :
    v.readAt (Elt F) (Rect.unit (s := S2x256x2048) off S1x256x2048.size inb).toLoadRect f = slot x k := by
  subst h; exact View.readAt_unit v f inb ho (inb_slot k)

/-- A store to slot `k % 2` of a two-slot buffer that held `x`. -/
theorem writes_slot {v : View sig κ sp S2x256x2048 .bf16} {f : v.ty.Contents (Elt F)} {x : Vec F S2x256x2048 .bf16} {off : Fin 3 → ℕ} {k : ℕ}
    {inb : ∀ a, off a + S1x256x2048.size a ≤ S2x256x2048.size a} {w w' : Vec F S1x256x2048 .bf16} (ho : off = ![k % 2, 0, 0])
    (h : v.read (Elt F) f = x) (hw : w = w') :
    v.read (Elt F) (v.writes (Elt F) f [⟨Rect.unit (s := S2x256x2048) off S1x256x2048.size inb, w⟩]) = setSlot x k w' := by
  subst h hw; exact View.read_writes_cons_put v f inb w [] ho

/-- A store to block `j` of the rows of a square buffer that held `x`. -/
theorem writes_rows {v : View sig κ sp S2048x2048 .bf16} {f : v.ty.Contents (Elt F)} {x : Vec F S2048x2048 .bf16} {off : Fin 2 → ℕ} {j : ℕ}
    {inb : ∀ a, off a + S256x2048.size a ≤ S2048x2048.size a} {w w' : Vec F S256x2048 .bf16} (ho : off = ![256 * j, 0])
    (h : v.read (Elt F) f = x) (hw : w = w') :
    v.read (Elt F) (v.writes (Elt F) f [⟨Rect.unit (s := S2048x2048) off S256x2048.size inb, w⟩]) = setRows x j w' := by
  subst h hw; exact View.read_writes_cons_put v f inb w [] ho

end Access

section Cases

variable (c : Dev nD) (i : grid0.Coords)
  (M2 : Memref sig .tc .vmem S1x256x2048 .f32) (h2 : M2.IsWhole) (M3 : Memref sig .tc .vmem S1x256x2048 .f32) (h3 : M3.IsWhole)
  (M4 : Memref sig .tc .vmem S256x2048 .f32) (h4 : M4.IsWhole) (M5 : Memref sig .tc .vmem S256x2048 .f32) (h5 : M5.IsWhole)
  (M6 : Memref sig .tc .vmem S1x2048 .f32) (h6 : M6.IsWhole) (M7 : Memref sig .tc .vmem S1x2048 .f32) (h7 : M7.IsWhole)
  (M8 : Memref sig .tc .vmem S1x256x2048 .f32) (h8 : M8.IsWhole) (M9 : Memref sig .tc .vmem S1x256x2048 .f32) (h9 : M9.IsWhole)
  (M10 : Memref sig .tc .vmem S2048x2048 .bf16) (h10 : M10.IsWhole) (M11 : Memref sig .tc .vmem S2048x2048 .bf16) (h11 : M11.IsWhole)
  (M12 : Memref sig .tc .vmem S2048x2048 .bf16) (h12 : M12.IsWhole) (M13 : Memref sig .tc .vmem S2x256x2048 .bf16) (h13 : M13.IsWhole)
  (M14 : Memref sig .tc .vmem S2x256x2048 .bf16) (h14 : M14.IsWhole)

/-- The thirteen buffers, each held whole at its contents in `s`. -/
def held (s : St F) : sProp 𝕄 :=
  iprop(owns (c : Thread nD τ) M2 fullShare s.x2 ∗ owns (c : Thread nD τ) M3 fullShare s.x3 ∗ owns (c : Thread nD τ) M4 fullShare s.x4
    ∗ owns (c : Thread nD τ) M5 fullShare s.x5 ∗ owns (c : Thread nD τ) M6 fullShare s.x6 ∗ owns (c : Thread nD τ) M7 fullShare s.x7
    ∗ owns (c : Thread nD τ) M8 fullShare s.a ∗ owns (c : Thread nD τ) M9 fullShare s.p
    ∗ owns (c : Thread nD τ) M10 fullShare s.wq ∗ owns (c : Thread nD τ) M11 fullShare s.wk ∗ owns (c : Thread nD τ) M12 fullShare s.kk
    ∗ owns (c : Thread nD τ) M13 fullShare s.qs ∗ owns (c : Thread nD τ) M14 fullShare s.ss)

/-- The body takes the buffers from the contents `s` to the contents `s'`. -/
def Takes (s s' : St F) : Prop :=
  ∀ (E : Set ℕ) (K : PUnit → sProp 𝕄),
    iprop(held c M2 M3 M4 M5 M6 M7 M8 M9 M10 M11 M12 M13 M14 s ∗ (held c M2 M3 M4 M5 M6 M7 M8 M9 M10 M11 M12 M13 M14 s' -∗ K ⟨⟩))
      ⊢ wp frame (wpE (defs₀ (F := F)) 𝒱₀ c none) E
          (cc0__body i M2 h2 M3 h3 M4 h4 M5 h5 M6 h6 M7 h7 M8 h8 M9 h9 M10 h10 M11 h11 M12 h12 M13 h13 M14 h14) K

/-- A point that stores nothing. -/
theorem takes_0 (s : St F) (c1 : ¬ k0_cond1 i = 1#1) (c2 : ¬ k0_cond2 i = 1#1) (c3 : ¬ k0_cond3 i = 1#1) (c4 : ¬ k0_cond4 i = 1#1) :
    Takes c i M2 h2 M3 h3 M4 h4 M5 h5 M6 h6 M7 h7 M8 h8 M9 h9 M10 h10 M11 h11 M12 h12 M13 h13 M14 h14 s
      s := by
  intro E K
  unfold held owns
  iintro ⟨⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩⟩, Hk⟩
  sl_unfold [cc0__body]
  sl_exec (disch := first | sl_exact c1 | sl_exact c2 | sl_exact c3 | sl_exact c4)
  sl_step
  iapply Hk
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5]
  · iexists _; isplitr; swap; · iexact H5
    ipureintro; exact e5
  isplitl [H6]
  · iexists _; isplitr; swap; · iexact H6
    ipureintro; exact e6
  isplitl [H7]
  · iexists _; isplitr; swap; · iexact H7
    ipureintro; exact e7
  isplitl [H8]
  · iexists _; isplitr; swap; · iexact H8
    ipureintro; exact e8
  isplitl [H9]
  · iexists _; isplitr; swap; · iexact H9
    ipureintro; exact e9
  isplitl [H10]
  · iexists _; isplitr; swap; · iexact H10
    ipureintro; exact e10
  isplitl [H11]
  · iexists _; isplitr; swap; · iexact H11
    ipureintro; exact e11
  isplitl [H12]
  · iexists _; isplitr; swap; · iexact H12
    ipureintro; exact e12
  isplitl [H13]
  · iexists _; isplitr; swap; · iexact H13
    ipureintro; exact e13
  iexists _; isplitr; swap; · iexact H14
  ipureintro; exact e14

/-- A point that rounds a block of the key weights. -/
theorem takes_1 (s : St F) (c1 : k0_cond1 i = 1#1) (c2 : ¬ k0_cond2 i = 1#1) (c3 : ¬ k0_cond3 i = 1#1) (c4 : ¬ k0_cond4 i = 1#1) :
    Takes c i M2 h2 M3 h3 M4 h4 M5 h5 M6 h6 M7 h7 M8 h8 M9 h9 M10 h10 M11 h11 M12 h12 M13 h13 M14 h14 s
      { s with wk := setRows s.wk (i 1).val (k0_pay1 s.x5) } := by
  intro E K
  unfold held owns
  iintro ⟨⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩⟩, Hk⟩
  sl_unfold [cc0__body]
  sl_exec (disch := first | sl_exact c1 | sl_exact c2 | sl_exact c3 | sl_exact c4)
  sl_step
  iapply Hk
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5]
  · iexists _; isplitr; swap; · iexact H5
    ipureintro; exact e5
  isplitl [H6]
  · iexists _; isplitr; swap; · iexact H6
    ipureintro; exact e6
  isplitl [H7]
  · iexists _; isplitr; swap; · iexact H7
    ipureintro; exact e7
  isplitl [H8]
  · iexists _; isplitr; swap; · iexact H8
    ipureintro; exact e8
  isplitl [H9]
  · iexists _; isplitr; swap; · iexact H9
    ipureintro; exact e9
  isplitl [H10]
  · iexists _; isplitr; swap; · iexact H10
    ipureintro; exact e10
  isplitl [H11]
  · iexists _; isplitr; swap; · iexact H11
    ipureintro; exact writes_rows (k0_off1_eq i) e11 (congrArg k0_pay1 (load_full _ e5))
  isplitl [H12]
  · iexists _; isplitr; swap; · iexact H12
    ipureintro; exact e12
  isplitl [H13]
  · iexists _; isplitr; swap; · iexact H13
    ipureintro; exact e13
  iexists _; isplitr; swap; · iexact H14
  ipureintro; exact e14

/-- A point that computes a block of keys and rounds a block of the query weights. -/
theorem takes_23 (s : St F) (c1 : ¬ k0_cond1 i = 1#1) (c2 : k0_cond2 i = 1#1) (c3 : k0_cond3 i = 1#1) (c4 : ¬ k0_cond4 i = 1#1) :
    Takes c i M2 h2 M3 h3 M4 h4 M5 h5 M6 h6 M7 h7 M8 h8 M9 h9 M10 h10 M11 h11 M12 h12 M13 h13 M14 h14 s
      { s with kk := setRows s.kk (i 1).val (k0_pay2 s.x2 s.wk s.x7), wq := setRows s.wq (i 1).val (k0_pay3 s.x4) } := by
  intro E K
  unfold held owns
  iintro ⟨⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩⟩, Hk⟩
  sl_unfold [cc0__body]
  sl_exec (disch := first | sl_exact c1 | sl_exact c2 | sl_exact c3 | sl_exact c4)
  sl_step
  iapply Hk
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5]
  · iexists _; isplitr; swap; · iexact H5
    ipureintro; exact e5
  isplitl [H6]
  · iexists _; isplitr; swap; · iexact H6
    ipureintro; exact e6
  isplitl [H7]
  · iexists _; isplitr; swap; · iexact H7
    ipureintro; exact e7
  isplitl [H8]
  · iexists _; isplitr; swap; · iexact H8
    ipureintro; exact e8
  isplitl [H9]
  · iexists _; isplitr; swap; · iexact H9
    ipureintro; exact e9
  isplitl [H10]
  · iexists _; isplitr; swap; · iexact H10
    ipureintro; exact writes_rows (k0_off3_eq i) e10 (congrArg k0_pay3 (load_full _ e4))
  isplitl [H11]
  · iexists _; isplitr; swap; · iexact H11
    ipureintro; exact e11
  isplitl [H12]
  · iexists _; isplitr; swap; · iexact H12
    ipureintro; exact writes_rows (k0_off2_eq i) e12 (congr (congrArg₂ k0_pay2 (load_full _ e2) (load_full _ e11)) (load_full _ e7))
  isplitl [H13]
  · iexists _; isplitr; swap; · iexact H13
    ipureintro; exact e13
  iexists _; isplitr; swap; · iexact H14
  ipureintro; exact e14

/-- A point that computes a block of keys. -/
theorem takes_2 (s : St F) (c1 : ¬ k0_cond1 i = 1#1) (c2 : k0_cond2 i = 1#1) (c3 : ¬ k0_cond3 i = 1#1) (c4 : ¬ k0_cond4 i = 1#1) :
    Takes c i M2 h2 M3 h3 M4 h4 M5 h5 M6 h6 M7 h7 M8 h8 M9 h9 M10 h10 M11 h11 M12 h12 M13 h13 M14 h14 s
      { s with kk := setRows s.kk (i 1).val (k0_pay2 s.x2 s.wk s.x7) } := by
  intro E K
  unfold held owns
  iintro ⟨⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩⟩, Hk⟩
  sl_unfold [cc0__body]
  sl_exec (disch := first | sl_exact c1 | sl_exact c2 | sl_exact c3 | sl_exact c4)
  sl_step
  iapply Hk
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5]
  · iexists _; isplitr; swap; · iexact H5
    ipureintro; exact e5
  isplitl [H6]
  · iexists _; isplitr; swap; · iexact H6
    ipureintro; exact e6
  isplitl [H7]
  · iexists _; isplitr; swap; · iexact H7
    ipureintro; exact e7
  isplitl [H8]
  · iexists _; isplitr; swap; · iexact H8
    ipureintro; exact e8
  isplitl [H9]
  · iexists _; isplitr; swap; · iexact H9
    ipureintro; exact e9
  isplitl [H10]
  · iexists _; isplitr; swap; · iexact H10
    ipureintro; exact e10
  isplitl [H11]
  · iexists _; isplitr; swap; · iexact H11
    ipureintro; exact e11
  isplitl [H12]
  · iexists _; isplitr; swap; · iexact H12
    ipureintro; exact writes_rows (k0_off2_eq i) e12 (congr (congrArg₂ k0_pay2 (load_full _ e2) (load_full _ e11)) (load_full _ e7))
  isplitl [H13]
  · iexists _; isplitr; swap; · iexact H13
    ipureintro; exact e13
  iexists _; isplitr; swap; · iexact H14
  ipureintro; exact e14

/-- A point that only computes a block of queries. -/
theorem takes_45 (s : St F) (c1 : ¬ k0_cond1 i = 1#1) (c2 : ¬ k0_cond2 i = 1#1) (c3 : ¬ k0_cond3 i = 1#1) (c4 : k0_cond4 i = 1#1) (c5 : k0_cond5 i = 1#1) (c6 : ¬ k0_cond6 i = 1#1) (c7 : ¬ k0_cond7 i = 1#1) :
    Takes c i M2 h2 M3 h3 M4 h4 M5 h5 M6 h6 M7 h7 M8 h8 M9 h9 M10 h10 M11 h11 M12 h12 M13 h13 M14 h14 s
      { s with qs := setSlot s.qs (i 1).val (k0_pay4 s.x3 s.wq s.x6) } := by
  intro E K
  unfold held owns
  iintro ⟨⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩⟩, Hk⟩
  sl_unfold [cc0__body]
  sl_exec (disch := first | sl_exact c1 | sl_exact c2 | sl_exact c3 | sl_exact c4 | sl_exact c5 | sl_exact c6 | sl_exact c7)
  sl_step
  iapply Hk
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5]
  · iexists _; isplitr; swap; · iexact H5
    ipureintro; exact e5
  isplitl [H6]
  · iexists _; isplitr; swap; · iexact H6
    ipureintro; exact e6
  isplitl [H7]
  · iexists _; isplitr; swap; · iexact H7
    ipureintro; exact e7
  isplitl [H8]
  · iexists _; isplitr; swap; · iexact H8
    ipureintro; exact e8
  isplitl [H9]
  · iexists _; isplitr; swap; · iexact H9
    ipureintro; exact e9
  isplitl [H10]
  · iexists _; isplitr; swap; · iexact H10
    ipureintro; exact e10
  isplitl [H11]
  · iexists _; isplitr; swap; · iexact H11
    ipureintro; exact e11
  isplitl [H12]
  · iexists _; isplitr; swap; · iexact H12
    ipureintro; exact e12
  isplitl [H13]
  · iexists _; isplitr; swap; · iexact H13
    ipureintro; exact writes_slot (off4_eq i) e13 (congr (congrArg₂ k0_pay4 (load_full _ e3) (load_full _ e10)) (load_full _ e6))
  iexists _; isplitr; swap; · iexact H14
  ipureintro; exact e14

/-- A point that computes a block of queries and the scores of the previous one. -/
theorem takes_456 (s : St F) (c1 : ¬ k0_cond1 i = 1#1) (c2 : ¬ k0_cond2 i = 1#1) (c3 : ¬ k0_cond3 i = 1#1) (c4 : k0_cond4 i = 1#1) (c5 : k0_cond5 i = 1#1) (c6 : k0_cond6 i = 1#1) (c7 : ¬ k0_cond7 i = 1#1) :
    Takes c i M2 h2 M3 h3 M4 h4 M5 h5 M6 h6 M7 h7 M8 h8 M9 h9 M10 h10 M11 h11 M12 h12 M13 h13 M14 h14 s
      { s with qs := setSlot s.qs (i 1).val (k0_pay4 s.x3 s.wq s.x6), ss := setSlot s.ss ((i 1).val + 1) (k0_pay5 (slot (setSlot s.qs (i 1).val (k0_pay4 s.x3 s.wq s.x6)) ((i 1).val + 1)) s.kk) } := by
  intro E K
  unfold held owns
  iintro ⟨⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩⟩, Hk⟩
  sl_unfold [cc0__body]
  sl_exec (disch := first | sl_exact c1 | sl_exact c2 | sl_exact c3 | sl_exact c4 | sl_exact c5 | sl_exact c6 | sl_exact c7)
  sl_step
  iapply Hk
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5]
  · iexists _; isplitr; swap; · iexact H5
    ipureintro; exact e5
  isplitl [H6]
  · iexists _; isplitr; swap; · iexact H6
    ipureintro; exact e6
  isplitl [H7]
  · iexists _; isplitr; swap; · iexact H7
    ipureintro; exact e7
  isplitl [H8]
  · iexists _; isplitr; swap; · iexact H8
    ipureintro; exact e8
  isplitl [H9]
  · iexists _; isplitr; swap; · iexact H9
    ipureintro; exact e9
  isplitl [H10]
  · iexists _; isplitr; swap; · iexact H10
    ipureintro; exact e10
  isplitl [H11]
  · iexists _; isplitr; swap; · iexact H11
    ipureintro; exact e11
  isplitl [H12]
  · iexists _; isplitr; swap; · iexact H12
    ipureintro; exact e12
  isplitl [H13]
  · iexists _; isplitr; swap; · iexact H13
    ipureintro; exact writes_slot (off4_eq i) e13 (congr (congrArg₂ k0_pay4 (load_full _ e3) (load_full _ e10)) (load_full _ e6))
  iexists _; isplitr; swap; · iexact H14
  ipureintro; exact writes_slot (off5_eq i) e14 (congrArg₂ k0_pay5 (load_slot (off5_eq i) (writes_slot (off4_eq i) e13 (congr (congrArg₂ k0_pay4 (load_full _ e3) (load_full _ e10)) (load_full _ e6)))) (load_full _ e12))

/-- A point that computes a block of queries, the scores of the previous one, and the outputs of the one before. -/
theorem takes_4567 (s : St F) (c1 : ¬ k0_cond1 i = 1#1) (c2 : ¬ k0_cond2 i = 1#1) (c3 : ¬ k0_cond3 i = 1#1) (c4 : k0_cond4 i = 1#1) (c5 : k0_cond5 i = 1#1) (c6 : k0_cond6 i = 1#1) (c7 : k0_cond7 i = 1#1) :
    Takes c i M2 h2 M3 h3 M4 h4 M5 h5 M6 h6 M7 h7 M8 h8 M9 h9 M10 h10 M11 h11 M12 h12 M13 h13 M14 h14 s
      { s with qs := setSlot s.qs (i 1).val (k0_pay4 s.x3 s.wq s.x6), ss := setSlot s.ss ((i 1).val + 1) (k0_pay5 (slot (setSlot s.qs (i 1).val (k0_pay4 s.x3 s.wq s.x6)) ((i 1).val + 1)) s.kk), a := k0_pay7 (slot (setSlot s.ss ((i 1).val + 1) (k0_pay5 (slot (setSlot s.qs (i 1).val (k0_pay4 s.x3 s.wq s.x6)) ((i 1).val + 1)) s.kk)) (i 1).val), p := k0_pay8 (slot (setSlot s.ss ((i 1).val + 1) (k0_pay5 (slot (setSlot s.qs (i 1).val (k0_pay4 s.x3 s.wq s.x6)) ((i 1).val + 1)) s.kk)) (i 1).val) } := by
  intro E K
  unfold held owns
  iintro ⟨⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩⟩, Hk⟩
  sl_unfold [cc0__body]
  sl_exec (disch := first | sl_exact c1 | sl_exact c2 | sl_exact c3 | sl_exact c4 | sl_exact c5 | sl_exact c6 | sl_exact c7)
  sl_step
  iapply Hk
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5]
  · iexists _; isplitr; swap; · iexact H5
    ipureintro; exact e5
  isplitl [H6]
  · iexists _; isplitr; swap; · iexact H6
    ipureintro; exact e6
  isplitl [H7]
  · iexists _; isplitr; swap; · iexact H7
    ipureintro; exact e7
  isplitl [H8]
  · iexists _; isplitr; swap; · iexact H8
    ipureintro; exact writes_full _ (congrArg k0_pay7 (load_slot (off6_eq i) (writes_slot (off5_eq i) e14 (congrArg₂ k0_pay5 (load_slot (off5_eq i) (writes_slot (off4_eq i) e13 (congr (congrArg₂ k0_pay4 (load_full _ e3) (load_full _ e10)) (load_full _ e6)))) (load_full _ e12)))))
  isplitl [H9]
  · iexists _; isplitr; swap; · iexact H9
    ipureintro; exact writes_full _ (congrArg k0_pay8 (load_slot (off6_eq i) (writes_slot (off5_eq i) e14 (congrArg₂ k0_pay5 (load_slot (off5_eq i) (writes_slot (off4_eq i) e13 (congr (congrArg₂ k0_pay4 (load_full _ e3) (load_full _ e10)) (load_full _ e6)))) (load_full _ e12)))))
  isplitl [H10]
  · iexists _; isplitr; swap; · iexact H10
    ipureintro; exact e10
  isplitl [H11]
  · iexists _; isplitr; swap; · iexact H11
    ipureintro; exact e11
  isplitl [H12]
  · iexists _; isplitr; swap; · iexact H12
    ipureintro; exact e12
  isplitl [H13]
  · iexists _; isplitr; swap; · iexact H13
    ipureintro; exact writes_slot (off4_eq i) e13 (congr (congrArg₂ k0_pay4 (load_full _ e3) (load_full _ e10)) (load_full _ e6))
  iexists _; isplitr; swap; · iexact H14
  ipureintro; exact writes_slot (off5_eq i) e14 (congrArg₂ k0_pay5 (load_slot (off5_eq i) (writes_slot (off4_eq i) e13 (congr (congrArg₂ k0_pay4 (load_full _ e3) (load_full _ e10)) (load_full _ e6)))) (load_full _ e12))

/-- A point that computes the scores of the last block of queries and the outputs of the one before. -/
theorem takes_467 (s : St F) (c1 : ¬ k0_cond1 i = 1#1) (c2 : ¬ k0_cond2 i = 1#1) (c3 : ¬ k0_cond3 i = 1#1) (c4 : k0_cond4 i = 1#1) (c5 : ¬ k0_cond5 i = 1#1) (c6 : k0_cond6 i = 1#1) (c7 : k0_cond7 i = 1#1) :
    Takes c i M2 h2 M3 h3 M4 h4 M5 h5 M6 h6 M7 h7 M8 h8 M9 h9 M10 h10 M11 h11 M12 h12 M13 h13 M14 h14 s
      { s with ss := setSlot s.ss ((i 1).val + 1) (k0_pay5 (slot (s.qs) ((i 1).val + 1)) s.kk), a := k0_pay7 (slot (setSlot s.ss ((i 1).val + 1) (k0_pay5 (slot (s.qs) ((i 1).val + 1)) s.kk)) (i 1).val), p := k0_pay8 (slot (setSlot s.ss ((i 1).val + 1) (k0_pay5 (slot (s.qs) ((i 1).val + 1)) s.kk)) (i 1).val) } := by
  intro E K
  unfold held owns
  iintro ⟨⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩⟩, Hk⟩
  sl_unfold [cc0__body]
  sl_exec (disch := first | sl_exact c1 | sl_exact c2 | sl_exact c3 | sl_exact c4 | sl_exact c5 | sl_exact c6 | sl_exact c7)
  sl_step
  iapply Hk
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5]
  · iexists _; isplitr; swap; · iexact H5
    ipureintro; exact e5
  isplitl [H6]
  · iexists _; isplitr; swap; · iexact H6
    ipureintro; exact e6
  isplitl [H7]
  · iexists _; isplitr; swap; · iexact H7
    ipureintro; exact e7
  isplitl [H8]
  · iexists _; isplitr; swap; · iexact H8
    ipureintro; exact writes_full _ (congrArg k0_pay7 (load_slot (off6_eq i) (writes_slot (off5_eq i) e14 (congrArg₂ k0_pay5 (load_slot (off5_eq i) e13) (load_full _ e12)))))
  isplitl [H9]
  · iexists _; isplitr; swap; · iexact H9
    ipureintro; exact writes_full _ (congrArg k0_pay8 (load_slot (off6_eq i) (writes_slot (off5_eq i) e14 (congrArg₂ k0_pay5 (load_slot (off5_eq i) e13) (load_full _ e12)))))
  isplitl [H10]
  · iexists _; isplitr; swap; · iexact H10
    ipureintro; exact e10
  isplitl [H11]
  · iexists _; isplitr; swap; · iexact H11
    ipureintro; exact e11
  isplitl [H12]
  · iexists _; isplitr; swap; · iexact H12
    ipureintro; exact e12
  isplitl [H13]
  · iexists _; isplitr; swap; · iexact H13
    ipureintro; exact e13
  iexists _; isplitr; swap; · iexact H14
  ipureintro; exact writes_slot (off5_eq i) e14 (congrArg₂ k0_pay5 (load_slot (off5_eq i) e13) (load_full _ e12))

/-- A point that only computes outputs. -/
theorem takes_47 (s : St F) (c1 : ¬ k0_cond1 i = 1#1) (c2 : ¬ k0_cond2 i = 1#1) (c3 : ¬ k0_cond3 i = 1#1) (c4 : k0_cond4 i = 1#1) (c5 : ¬ k0_cond5 i = 1#1) (c6 : ¬ k0_cond6 i = 1#1) (c7 : k0_cond7 i = 1#1) :
    Takes c i M2 h2 M3 h3 M4 h4 M5 h5 M6 h6 M7 h7 M8 h8 M9 h9 M10 h10 M11 h11 M12 h12 M13 h13 M14 h14 s
      { s with a := k0_pay7 (slot (s.ss) (i 1).val), p := k0_pay8 (slot (s.ss) (i 1).val) } := by
  intro E K
  unfold held owns
  iintro ⟨⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩⟩, Hk⟩
  sl_unfold [cc0__body]
  sl_exec (disch := first | sl_exact c1 | sl_exact c2 | sl_exact c3 | sl_exact c4 | sl_exact c5 | sl_exact c6 | sl_exact c7)
  sl_step
  iapply Hk
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5]
  · iexists _; isplitr; swap; · iexact H5
    ipureintro; exact e5
  isplitl [H6]
  · iexists _; isplitr; swap; · iexact H6
    ipureintro; exact e6
  isplitl [H7]
  · iexists _; isplitr; swap; · iexact H7
    ipureintro; exact e7
  isplitl [H8]
  · iexists _; isplitr; swap; · iexact H8
    ipureintro; exact writes_full _ (congrArg k0_pay7 (load_slot (off6_eq i) e14))
  isplitl [H9]
  · iexists _; isplitr; swap; · iexact H9
    ipureintro; exact writes_full _ (congrArg k0_pay8 (load_slot (off6_eq i) e14))
  isplitl [H10]
  · iexists _; isplitr; swap; · iexact H10
    ipureintro; exact e10
  isplitl [H11]
  · iexists _; isplitr; swap; · iexact H11
    ipureintro; exact e11
  isplitl [H12]
  · iexists _; isplitr; swap; · iexact H12
    ipureintro; exact e12
  isplitl [H13]
  · iexists _; isplitr; swap; · iexact H13
    ipureintro; exact e13
  iexists _; isplitr; swap; · iexact H14
  ipureintro; exact e14

end Cases

end Cert.Proof.KI

end
-- ==== Proof.KI.Values.lean ====
/-
  What the carried buffers hold when a grid point begins. The grid is five phases of ten points. Phase 0 rounds the key
  weights block by block; phase 1 computes the keys of batch 0 and rounds the query weights; phase 2 computes the queries of
  batch 0, one point later their scores, one point later the outputs; phases 3 and 4 are phases 1 and 2 for batch 1. Below:
  the values those buffers are filled with, as functions of the input blocks; the invariant that says which part of each
  buffer is filled when point `n` begins; and that one point carries the invariant to the next.
-/
module

public import proofs.«01_k».proof.Proof.KI.Body

@[expose] public section

set_option maxRecDepth 16384

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

variable (m : (ℓ : Loc nD τ sig) → Buf (Elt F) ℓ)

/-! ## Points of the grid -/

/-- The grid's point number `n` (modulo the fifty points). -/
def pt (n : ℕ) : Fin cfg0.N := ⟨n % 50, Nat.mod_lt _ (by decide)⟩

/-- The grid has fifty points. -/
theorem lt_50 (t : Fin cfg0.N) : t.val < 50 := t.isLt

/-- The point numbered by a point is that point. -/
theorem pt_val (t : Fin cfg0.N) : pt t.val = t := Fin.ext (Nat.mod_eq_of_lt (lt_50 t))

/-- The second grid coordinate of a point is its place within its phase. -/
theorem coord1 : ∀ t : Fin cfg0.N, (grid0.coords t 1).val = t.val % 10 := by decide +kernel

/-- The key weights are rounded at the first eight points of phase 0. -/
theorem cond1_iff : ∀ t : Fin cfg0.N, k0_cond1 (grid0.coords t) = 1#1 ↔ t.val < 8 := by decide +kernel
/-- Keys are computed at the first eight points of phases 1 and 3. -/
theorem cond2_iff : ∀ t : Fin cfg0.N, k0_cond2 (grid0.coords t) = 1#1 ↔ (10 ≤ t.val ∧ t.val < 18) ∨ (30 ≤ t.val ∧ t.val < 38) := by
  decide +kernel
/-- The query weights are rounded at the first eight points of phase 1. -/
theorem cond3_iff : ∀ t : Fin cfg0.N, k0_cond3 (grid0.coords t) = 1#1 ↔ 10 ≤ t.val ∧ t.val < 18 := by decide +kernel
/-- Phases 2 and 4 compute queries, scores and outputs. -/
theorem cond4_iff : ∀ t : Fin cfg0.N, k0_cond4 (grid0.coords t) = 1#1 ↔ (20 ≤ t.val ∧ t.val < 30) ∨ 40 ≤ t.val := by decide +kernel
/-- Queries are computed at the first eight points of a phase. -/
theorem cond5_iff : ∀ t : Fin cfg0.N, k0_cond5 (grid0.coords t) = 1#1 ↔ t.val % 10 < 8 := by decide +kernel
/-- Scores are computed one point later. -/
theorem cond6_iff : ∀ t : Fin cfg0.N, k0_cond6 (grid0.coords t) = 1#1 ↔ 1 ≤ t.val % 10 ∧ t.val % 10 ≤ 8 := by decide +kernel
/-- Outputs are computed two points later. -/
theorem cond7_iff : ∀ t : Fin cfg0.N, k0_cond7 (grid0.coords t) = 1#1 ↔ 2 ≤ t.val % 10 := by decide +kernel

/-! ## The input blocks, at their shapes -/

/-- The activations' block read for the keys. -/
abbrev blk0 (c : Dev nD) (t : Fin cfg0.N) : Vec F S1x256x2048 .f32 := iblk m c 0 t
/-- The activations' block read for the queries. -/
abbrev blk1 (c : Dev nD) (t : Fin cfg0.N) : Vec F S1x256x2048 .f32 := iblk m c 1 t
/-- The query weights' block. -/
abbrev blk2 (c : Dev nD) (t : Fin cfg0.N) : Vec F S256x2048 .f32 := iblk m c 2 t
/-- The key weights' block. -/
abbrev blk3 (c : Dev nD) (t : Fin cfg0.N) : Vec F S256x2048 .f32 := iblk m c 3 t
/-- The query bias. -/
abbrev blk4 (c : Dev nD) (t : Fin cfg0.N) : Vec F S1x2048 .f32 := iblk m c 4 t
/-- The key bias. -/
abbrev blk5 (c : Dev nD) (t : Fin cfg0.N) : Vec F S1x2048 .f32 := iblk m c 5 t

/-! ## A square buffer as eight blocks of rows -/

/-- The place of row `r` within its block of 256 rows, the column kept. -/
def loc (y : S2048x2048.Idx) : S256x2048.Idx := fun
  | (0 : Fin 2) => ⟨(y (0 : Fin 2)).val % 256, Nat.mod_lt _ (by decide)⟩
  | (1 : Fin 2) => y (1 : Fin 2)

/-- The square array whose `j`-th block of rows is `f j`. -/
def asm {α : Type} (f : ℕ → S256x2048.Idx → α) : S2048x2048.Idx → α := fun y => f ((y (0 : Fin 2)).val / 256) (loc y)

/-- There are eight blocks of rows. -/
theorem rows_lt (y : S2048x2048.Idx) : (y (0 : Fin 2)).val / 256 < 8 := by
  have : (y (0 : Fin 2)).val < 2048 := (y (0 : Fin 2)).isLt
  omega

/-- A row outside block `j` is untouched by a store to block `j`. -/
theorem setRows_ne {α : Type} (x : S2048x2048.Idx → α) (j : ℕ) (w : S256x2048.Idx → α) (y : S2048x2048.Idx)
    (h : (y (0 : Fin 2)).val / 256 ≠ j) : setRows x j w y = x y := by
  refine dif_neg fun hall => h ?_
  have h0 := hall (0 : Fin 2)
  have e0 : (![256 * j, 0] : Fin 2 → ℕ) (0 : Fin 2) = 256 * j := rfl
  have e1 : S256x2048.size (0 : Fin 2) = 256 := rfl
  rw [e0, e1] at h0
  omega

/-- A row of block `j` holds, after a store to block `j`, what was stored. -/
theorem setRows_eq {α : Type} (x : S2048x2048.Idx → α) (j : ℕ) (f : ℕ → S256x2048.Idx → α) (y : S2048x2048.Idx)
    (h : (y (0 : Fin 2)).val / 256 = j) : setRows x j (f j) y = asm f y := by
  have hall : ∀ a : Fin 2, (![256 * j, 0] : Fin 2 → ℕ) a ≤ (y a).val ∧ (y a).val < (![256 * j, 0] : Fin 2 → ℕ) a + S256x2048.size a := by
    intro a
    fin_cases a
    · show 256 * j ≤ (y (0 : Fin 2)).val ∧ (y (0 : Fin 2)).val < 256 * j + 256
      omega
    · show 0 ≤ (y (1 : Fin 2)).val ∧ (y (1 : Fin 2)).val < 0 + 2048
      have : (y (1 : Fin 2)).val < 2048 := (y (1 : Fin 2)).isLt
      omega
  refine (dif_pos hall).trans ?_
  unfold asm
  rw [h]
  refine congrArg (f j) (funext fun a => Fin.ext ?_)
  fin_cases a
  · show (y (0 : Fin 2)).val - 256 * j = (y (0 : Fin 2)).val % 256
    omega
  · show (y (1 : Fin 2)).val - 0 = (y (1 : Fin 2)).val
    omega

/-! ## The values -/

/-- The rounded key weights, filled during phase 0. -/
def WK (c : Dev nD) : Vec F S2048x2048 .bf16 := asm fun j => k0_pay1 (blk3 m c (pt j))
/-- The rounded query weights, filled during phase 1. -/
def WQ (c : Dev nD) : Vec F S2048x2048 .bf16 := asm fun j => k0_pay3 (blk2 m c (pt (10 + j)))
/-- The `j`-th block of the keys of batch `b`. -/
def keyBlk (c : Dev nD) (b j : ℕ) : Vec F S256x2048 .bf16 :=
  k0_pay2 (blk0 m c (pt (10 + 20 * b + j))) (WK m c) (blk5 m c (pt (10 + 20 * b + j)))
/-- The keys of batch `b`, filled during phase `1 + 2 b`. -/
def KK (c : Dev nD) (b : ℕ) : Vec F S2048x2048 .bf16 := asm (keyBlk m c b)
/-- The `j`-th block of the queries of batch `b`, computed at point `j` of phase `2 + 2 b`. -/
def QQ (c : Dev nD) (b j : ℕ) : Vec F S1x256x2048 .bf16 :=
  k0_pay4 (blk1 m c (pt (20 + 20 * b + j))) (WQ m c) (blk4 m c (pt (20 + 20 * b + j)))
/-- The scores of the `j`-th block of queries of batch `b`, computed one point later. -/
def SS (c : Dev nD) (b j : ℕ) : Vec F S1x256x2048 .bf16 := k0_pay5 (QQ m c b j) (KK m c b)

/-! ## The invariant -/

/-- What the five carried buffers hold when point `n` begins. -/
structure Inv (c : Dev nD) (n : ℕ) (wq wk kk : Vec F S2048x2048 .bf16) (qs ss : Vec F S2x256x2048 .bf16) : Prop where
  /-- the key weights' blocks of the points before -/
  hwk : ∀ y, (y (0 : Fin 2)).val / 256 < n → wk y = WK m c y
  /-- the query weights' blocks -/
  hwq : ∀ y, (y (0 : Fin 2)).val / 256 + 10 < n → wq y = WQ m c y
  /-- the keys of batch 0, until phase 3 -/
  hk0 : n ≤ 30 → ∀ y, (y (0 : Fin 2)).val / 256 + 10 < n → kk y = KK m c 0 y
  /-- the keys of batch 1 -/
  hk1 : ∀ y, (y (0 : Fin 2)).val / 256 + 30 < n → kk y = KK m c 1 y
  /-- the last two blocks of queries -/
  hq : ∀ b j, b < 2 → j < 8 → 20 + 20 * b + j < n → n ≤ 22 + 20 * b + j → slot qs j = QQ m c b j
  /-- the last two blocks of scores -/
  hs : ∀ b j, b < 2 → j < 8 → 21 + 20 * b + j < n → n ≤ 23 + 20 * b + j → slot ss j = SS m c b j

variable {m} {c : Dev nD} {n : ℕ} {wq wk kk wq' wk' kk' : Vec F S2048x2048 .bf16} {qs ss qs' ss' : Vec F S2x256x2048 .bf16}

/-- Before the first point nothing is claimed. -/
theorem Inv.zero : Inv m c 0 wq wk kk qs ss :=
  ⟨fun _ h => absurd h (Nat.not_lt_zero _), fun _ h => absurd h (Nat.not_lt_zero _), fun _ _ h => absurd h (Nat.not_lt_zero _),
    fun _ h => absurd h (Nat.not_lt_zero _), fun _ _ _ _ h => absurd h (Nat.not_lt_zero _), fun _ _ _ _ h => absurd h (Nat.not_lt_zero _)⟩

/-- From phase 1 on the key weights are complete. -/
theorem Inv.wk_eq (I : Inv m c n wq wk kk qs ss) (h : 8 ≤ n) : wk = WK m c :=
  funext fun y => I.hwk y (by have := rows_lt y; omega)
/-- From phase 2 on the query weights are complete. -/
theorem Inv.wq_eq (I : Inv m c n wq wk kk qs ss) (h : 18 ≤ n) : wq = WQ m c :=
  funext fun y => I.hwq y (by have := rows_lt y; omega)
/-- In phase `2 + 2 b` the keys of batch `b` are complete. -/
theorem Inv.kk_eq (I : Inv m c n wq wk kk qs ss) (b : ℕ) (hb : b < 2) (h : 20 + 20 * b ≤ n) (h' : n ≤ 30 + 20 * b) : kk = KK m c b := by
  funext y
  have := rows_lt y
  rcases (by omega : b = 0 ∨ b = 1) with rfl | rfl
  · exact I.hk0 (by omega) y (by omega)
  · exact I.hk1 y (by omega)

/-- One point carries the invariant: each buffer keeps what it held but for the block or slot of this point, which is filled
    with its value. -/
theorem Inv.step (I : Inv m c n wq wk kk qs ss)
    (ak : ∀ y, (y (0 : Fin 2)).val / 256 ≠ n → wk' y = wk y) (bk : ∀ y, (y (0 : Fin 2)).val / 256 = n → wk' y = WK m c y)
    (aq : ∀ y, (y (0 : Fin 2)).val / 256 + 10 ≠ n → wq' y = wq y) (bq : ∀ y, (y (0 : Fin 2)).val / 256 + 10 = n → wq' y = WQ m c y)
    (akk : ∀ y, (y (0 : Fin 2)).val / 256 + 10 ≠ n → (y (0 : Fin 2)).val / 256 + 30 ≠ n → kk' y = kk y)
    (bk0 : ∀ y, (y (0 : Fin 2)).val / 256 + 10 = n → kk' y = KK m c 0 y)
    (bk1 : ∀ y, (y (0 : Fin 2)).val / 256 + 30 = n → kk' y = KK m c 1 y)
    (ac : ∀ j, (j + n) % 2 = 1 → slot qs' j = slot qs j)
    (bc : ∀ b j, b < 2 → j < 8 → 20 + 20 * b + j = n → slot qs' j = QQ m c b j)
    (ae : ∀ j, (j + n) % 2 = 0 → slot ss' j = slot ss j)
    (be : ∀ b j, b < 2 → j < 8 → 21 + 20 * b + j = n → slot ss' j = SS m c b j) :
    Inv m c (n + 1) wq' wk' kk' qs' ss' where
  hwk y h := by
    by_cases e : (y (0 : Fin 2)).val / 256 = n
    · exact bk y e
    · exact (ak y e).trans (I.hwk y (by omega))
  hwq y h := by
    by_cases e : (y (0 : Fin 2)).val / 256 + 10 = n
    · exact bq y e
    · exact (aq y e).trans (I.hwq y (by omega))
  hk0 hn y h := by
    by_cases e : (y (0 : Fin 2)).val / 256 + 10 = n
    · exact bk0 y e
    · exact (akk y e (by omega)).trans (I.hk0 (by omega) y (by omega))
  hk1 y h := by
    have := rows_lt y
    by_cases e : (y (0 : Fin 2)).val / 256 + 30 = n
    · exact bk1 y e
    · exact (akk y (by omega) e).trans (I.hk1 y (by omega))
  hq b j hb hj h h' := by
    by_cases e : 20 + 20 * b + j = n
    · exact bc b j hb hj e
    · exact (ac j (by omega)).trans (I.hq b j hb hj (by omega) (by omega))
  hs b j hb hj h h' := by
    by_cases e : 21 + 20 * b + j = n
    · exact be b j hb hj e
    · exact (ae j (by omega)).trans (I.hs b j hb hj (by omega) (by omega))

end Cert.Proof.KI

end
-- ==== Proof.KI.Point.lean ====
/-
  One grid point, from the invariant to the invariant: whichever of the conditional stores the point does, the body runs from
  the buffers as the invariant describes them to the buffers as the invariant describes them at the next point, the input
  blocks untouched, and the two output blocks at the outputs' values where the point stores them, untouched elsewhere.
-/
module

public import proofs.«01_k».proof.Proof.KI.Values

@[expose] public section

set_option maxRecDepth 16384

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

variable (m : (ℓ : Loc nD τ sig) → Buf (Elt F) ℓ) (c : Dev nD) (t : Fin cfg0.N)

/-- The batch whose outputs are stored at a point. -/
def obat (n : ℕ) : ℕ := if n < 40 then 0 else 1
/-- The block whose outputs are stored at a point; from the end of phase 2 to the end of phase 3, the last block. -/
def oblk (n : ℕ) : ℕ := min 7 (n - (22 + 20 * obat n))

/-- The first output's block: the positive part of the tanh of the scores. -/
def out6 (n : ℕ) : Vec F S1x256x2048 .f32 := k0_pay7 (SS m c (obat n) (oblk n))
/-- The second output's block: the negative part. -/
def out7 (n : ℕ) : Vec F S1x256x2048 .f32 := k0_pay8 (SS m c (obat n) (oblk n))

/-- The buffers' contents at a point: its input blocks, and the rest as given. -/
abbrev stAt (a p : Vec F S1x256x2048 .f32) (wq wk kk : Vec F S2048x2048 .bf16) (qs ss : Vec F S2x256x2048 .bf16) : St F :=
  ⟨blk0 m c t, blk1 m c t, blk2 m c t, blk3 m c t, blk4 m c t, blk5 m c t, a, p, wq, wk, kk, qs, ss⟩

/-- A point of phase 2 or 4, third or later, stores the outputs. -/
def Live (n : ℕ) : Prop := ((20 ≤ n ∧ n < 30) ∨ 40 ≤ n) ∧ 2 ≤ n % 10

/-- The body at point `t` takes the contents `s` to `s'`, on any staging buffers and scratch buffers. -/
def TakesAt (s s' : St F) : Prop :=
  ∀ (M2 : Memref sig .tc .vmem S1x256x2048 .f32) (h2 : M2.IsWhole) (M3 : Memref sig .tc .vmem S1x256x2048 .f32) (h3 : M3.IsWhole)
    (M4 : Memref sig .tc .vmem S256x2048 .f32) (h4 : M4.IsWhole) (M5 : Memref sig .tc .vmem S256x2048 .f32) (h5 : M5.IsWhole)
    (M6 : Memref sig .tc .vmem S1x2048 .f32) (h6 : M6.IsWhole) (M7 : Memref sig .tc .vmem S1x2048 .f32) (h7 : M7.IsWhole)
    (M8 : Memref sig .tc .vmem S1x256x2048 .f32) (h8 : M8.IsWhole) (M9 : Memref sig .tc .vmem S1x256x2048 .f32) (h9 : M9.IsWhole)
    (M10 : Memref sig .tc .vmem S2048x2048 .bf16) (h10 : M10.IsWhole) (M11 : Memref sig .tc .vmem S2048x2048 .bf16) (h11 : M11.IsWhole)
    (M12 : Memref sig .tc .vmem S2048x2048 .bf16) (h12 : M12.IsWhole) (M13 : Memref sig .tc .vmem S2x256x2048 .bf16) (h13 : M13.IsWhole)
    (M14 : Memref sig .tc .vmem S2x256x2048 .bf16) (h14 : M14.IsWhole),
    Takes c (grid0.coords t) M2 h2 M3 h3 M4 h4 M5 h5 M6 h6 M7 h7 M8 h8 M9 h9 M10 h10 M11 h11 M12 h12 M13 h13 M14 h14 s s'

/-- What one point does. -/
def PointSpec (a p : Vec F S1x256x2048 .f32) (wq wk kk : Vec F S2048x2048 .bf16) (qs ss : Vec F S2x256x2048 .bf16) : Prop :=
  ∃ (a' p' : Vec F S1x256x2048 .f32) (wq' wk' kk' : Vec F S2048x2048 .bf16) (qs' ss' : Vec F S2x256x2048 .bf16),
    TakesAt c t (stAt m c t a p wq wk kk qs ss) (stAt m c t a' p' wq' wk' kk' qs' ss') ∧ Inv m c (t.val + 1) wq' wk' kk' qs' ss'
      ∧ (Live t.val → a' = out6 m c t.val ∧ p' = out7 m c t.val) ∧ (¬ Live t.val → a' = a ∧ p' = p)

variable {m c t} {a p : Vec F S1x256x2048 .f32} {wq wk kk : Vec F S2048x2048 .bf16} {qs ss : Vec F S2x256x2048 .bf16}

/-- The slot's number counts modulo two. -/
theorem slot_congr {α : Type} (x : S2x256x2048.Idx → α) {k k' : ℕ} (h : k % 2 = k' % 2) : slot x k = slot x k' := by
  funext y; refine congrArg x (funext fun a => Fin.ext ?_)
  show (![k % 2, 0, 0] : Fin 3 → ℕ) a + 1 * (y a).val = (![k' % 2, 0, 0] : Fin 3 → ℕ) a + 1 * (y a).val
  rw [h]

/-- What was put in a slot, read back under another number of the same slot. -/
theorem slot_setSlot_eq {α : Type} (x : S2x256x2048.Idx → α) {k k' : ℕ} (w : S1x256x2048.Idx → α) (h : k % 2 = k' % 2) :
    slot (setSlot x k w) k' = w :=
  (slot_congr _ h.symm).trans (slot_setSlot_same x k w)

/-- The key block stored at a point of phase 1 or 3. -/
theorem keyBlk_at (b : ℕ) (h : 10 + 20 * b ≤ t.val) (h' : t.val < 20 + 20 * b) :
    k0_pay2 (blk0 m c t) (WK m c) (blk5 m c t) = keyBlk m c b (t.val % 10) := by
  have e : pt (10 + 20 * b + t.val % 10) = t := by
    rw [show 10 + 20 * b + t.val % 10 = t.val by omega]; exact pt_val t
  unfold keyBlk; rw [e]

/-- The query block stored at a point of phase 2 or 4. -/
theorem QQ_at (b j : ℕ) (h : 20 + 20 * b + j = t.val) : k0_pay4 (blk1 m c t) (WQ m c) (blk4 m c t) = QQ m c b j := by
  unfold QQ; rw [h, pt_val]

/-- The last two points of phases 0, 1 and 3 store nothing. -/
theorem point_0 (I : Inv m c t.val wq wk kk qs ss) (hp : (8 ≤ t.val ∧ t.val < 10) ∨ (18 ≤ t.val ∧ t.val < 20) ∨ (38 ≤ t.val ∧ t.val < 40)) :
    PointSpec m c t a p wq wk kk qs ss := by
  have hr := rows_lt
  refine ⟨a, p, wq, wk, kk, qs, ss, ?_, ?_, fun h => by unfold Live at h; omega, fun _ => ⟨rfl, rfl⟩⟩
  · intro M2 h2 M3 h3 M4 h4 M5 h5 M6 h6 M7 h7 M8 h8 M9 h9 M10 h10 M11 h11 M12 h12 M13 h13 M14 h14
    exact takes_0 c _ M2 h2 M3 h3 M4 h4 M5 h5 M6 h6 M7 h7 M8 h8 M9 h9 M10 h10 M11 h11 M12 h12 M13 h13 M14 h14 (stAt m c t a p wq wk kk qs ss)
      (fun h => by have := (cond1_iff t).1 h; omega) (fun h => by have := (cond2_iff t).1 h; omega) (fun h => by have := (cond3_iff t).1 h; omega) (fun h => by have := (cond4_iff t).1 h; omega)
  · exact I.step (fun _ _ => rfl) (fun y h => by have := hr y; omega) (fun _ _ => rfl) (fun y h => by have := hr y; omega) (fun _ _ _ => rfl) (fun y h => by have := hr y; omega) (fun y h => by have := hr y; omega) (fun _ _ => rfl) (fun b j hb hj h => by omega) (fun _ _ => rfl) (fun b j hb hj h => by omega)

/-- A point of phase 0 fills its block of the key weights. -/
theorem point_1 (I : Inv m c t.val wq wk kk qs ss) (hp : t.val < 8) :
    PointSpec m c t a p wq wk kk qs ss := by
  have e : t.val % 10 = t.val := by omega
  have hr := rows_lt
  refine ⟨a, p, wq, setRows wk (t.val % 10) (k0_pay1 (blk3 m c t)), kk, qs, ss, ?_, ?_, fun h => by unfold Live at h; omega, fun _ => ⟨rfl, rfl⟩⟩
  · intro M2 h2 M3 h3 M4 h4 M5 h5 M6 h6 M7 h7 M8 h8 M9 h9 M10 h10 M11 h11 M12 h12 M13 h13 M14 h14
    rw [← coord1 t]
    exact takes_1 c _ M2 h2 M3 h3 M4 h4 M5 h5 M6 h6 M7 h7 M8 h8 M9 h9 M10 h10 M11 h11 M12 h12 M13 h13 M14 h14 (stAt m c t a p wq wk kk qs ss)
      ((cond1_iff t).2 (by omega)) (fun h => by have := (cond2_iff t).1 h; omega) (fun h => by have := (cond3_iff t).1 h; omega) (fun h => by have := (cond4_iff t).1 h; omega)
  · rw [e]
    refine I.step (fun y h => setRows_ne _ _ _ y h) (fun y h => ?_) (fun _ _ => rfl) (fun y h => by have := hr y; omega) (fun _ _ _ => rfl) (fun y h => by have := hr y; omega) (fun y h => by have := hr y; omega) (fun _ _ => rfl) (fun b j hb hj h => by omega) (fun _ _ => rfl) (fun b j hb hj h => by omega)
    have := setRows_eq wk t.val (fun j => k0_pay1 (blk3 m c (pt j))) y h
    simp only [pt_val] at this
    exact this

/-- A point of phase 1 fills its block of the keys of batch 0 and of the query weights. -/
theorem point_23 (I : Inv m c t.val wq wk kk qs ss) (hp : 10 ≤ t.val ∧ t.val < 18) :
    PointSpec m c t a p wq wk kk qs ss := by
  have e : 10 + t.val % 10 = t.val := by omega
  obtain rfl := I.wk_eq (by omega)
  have hr := rows_lt
  refine ⟨a, p, setRows wq (t.val % 10) (k0_pay3 (blk2 m c t)), WK m c, setRows kk (t.val % 10) (k0_pay2 (blk0 m c t) (WK m c) (blk5 m c t)), qs, ss, ?_, ?_, fun h => by unfold Live at h; omega, fun _ => ⟨rfl, rfl⟩⟩
  · intro M2 h2 M3 h3 M4 h4 M5 h5 M6 h6 M7 h7 M8 h8 M9 h9 M10 h10 M11 h11 M12 h12 M13 h13 M14 h14
    rw [← coord1 t]
    exact takes_23 c _ M2 h2 M3 h3 M4 h4 M5 h5 M6 h6 M7 h7 M8 h8 M9 h9 M10 h10 M11 h11 M12 h12 M13 h13 M14 h14 (stAt m c t a p wq (WK m c) kk qs ss)
      (fun h => by have := (cond1_iff t).1 h; omega) ((cond2_iff t).2 (by omega)) ((cond3_iff t).2 (by omega)) (fun h => by have := (cond4_iff t).1 h; omega)
  · rw [keyBlk_at 0 (by omega) (by omega)]
    refine I.step (fun _ _ => rfl) (fun _ _ => rfl) (fun y h => setRows_ne _ _ _ y (by omega)) (fun y h => ?_) (fun y h _ => setRows_ne _ _ _ y (by omega))
      (fun y h => setRows_eq kk _ (keyBlk m c 0) y (by omega)) (fun y h => by have := hr y; omega) (fun _ _ => rfl) (fun b j hb hj h => by omega) (fun _ _ => rfl) (fun b j hb hj h => by omega)
    have := setRows_eq wq (t.val % 10) (fun j => k0_pay3 (blk2 m c (pt (10 + j)))) y (by omega)
    simp only [e, pt_val] at this
    exact this

/-- A point of phase 3 fills its block of the keys of batch 1. -/
theorem point_2 (I : Inv m c t.val wq wk kk qs ss) (hp : 30 ≤ t.val ∧ t.val < 38) :
    PointSpec m c t a p wq wk kk qs ss := by
  obtain rfl := I.wk_eq (by omega)
  have hr := rows_lt
  refine ⟨a, p, wq, WK m c, setRows kk (t.val % 10) (k0_pay2 (blk0 m c t) (WK m c) (blk5 m c t)), qs, ss, ?_, ?_, fun h => by unfold Live at h; omega, fun _ => ⟨rfl, rfl⟩⟩
  · intro M2 h2 M3 h3 M4 h4 M5 h5 M6 h6 M7 h7 M8 h8 M9 h9 M10 h10 M11 h11 M12 h12 M13 h13 M14 h14
    rw [← coord1 t]
    exact takes_2 c _ M2 h2 M3 h3 M4 h4 M5 h5 M6 h6 M7 h7 M8 h8 M9 h9 M10 h10 M11 h11 M12 h12 M13 h13 M14 h14 (stAt m c t a p wq (WK m c) kk qs ss)
      (fun h => by have := (cond1_iff t).1 h; omega) ((cond2_iff t).2 (by omega)) (fun h => by have := (cond3_iff t).1 h; omega) (fun h => by have := (cond4_iff t).1 h; omega)
  · rw [keyBlk_at 1 (by omega) (by omega)]
    exact I.step (fun _ _ => rfl) (fun _ _ => rfl) (fun _ _ => rfl) (fun y h => by have := hr y; omega) (fun y _ h => setRows_ne _ _ _ y (by omega)) (fun y h => by have := hr y; omega)
      (fun y h => setRows_eq kk _ (keyBlk m c 1) y (by omega)) (fun _ _ => rfl) (fun b j hb hj h => by omega) (fun _ _ => rfl) (fun b j hb hj h => by omega)

/-- The queries read at point `j` of a phase of batch `b`: those of the point before. -/
theorem queries_read (I : Inv m c t.val wq wk kk qs ss) (b j : ℕ) (hb : b < 2) (ht : t.val = 20 + 20 * b + j) (h1 : 1 ≤ j) (h8 : j ≤ 8) :
    slot qs (t.val % 10 + 1) = QQ m c b (j - 1) :=
  (slot_congr qs (by omega)).trans (I.hq b (j - 1) hb (by omega) (by omega) (by omega))

/-- The scores read at point `j` of a phase of batch `b`: those of the block two points before. -/
theorem scores_read (I : Inv m c t.val wq wk kk qs ss) (b j : ℕ) (hb : b < 2) (ht : t.val = 20 + 20 * b + j) (h2 : 2 ≤ j) (h9 : j < 10) :
    slot ss (t.val % 10) = SS m c b (j - 2) :=
  (slot_congr ss (by omega)).trans (I.hs b (j - 2) hb (by omega) (by omega) (by omega))

/-- The block of the outputs at point `j` of a phase of batch `b`. -/
theorem out_at (b j : ℕ) (hb : b < 2) (ht : t.val = 20 + 20 * b + j) (h2 : 2 ≤ j) (h9 : j < 10) :
    SS m c (obat t.val) (oblk t.val) = SS m c b (j - 2) := by
  have e : obat t.val = b := by unfold obat; split <;> omega
  have e' : oblk t.val = j - 2 := by unfold oblk; rw [e]; omega
  rw [e, e']

/-- The first point of phase 2 or 4 computes the first block of queries. -/
theorem point_45 (I : Inv m c t.val wq wk kk qs ss) (b j : ℕ) (hb : b < 2) (ht : t.val = 20 + 20 * b + j) (hj : j = 0) :
    PointSpec m c t a p wq wk kk qs ss := by
  obtain rfl := I.wk_eq (by omega)
  obtain rfl := I.wq_eq (by omega)
  obtain rfl := I.kk_eq b hb (by omega) (by omega)
  have hr := rows_lt
  refine ⟨a, p, WQ m c, WK m c, KK m c b, setSlot qs (t.val % 10) (k0_pay4 (blk1 m c t) (WQ m c) (blk4 m c t)), ss, ?_, ?_, fun h => by unfold Live at h; omega, fun _ => ⟨rfl, rfl⟩⟩
  · intro M2 h2 M3 h3 M4 h4 M5 h5 M6 h6 M7 h7 M8 h8 M9 h9 M10 h10 M11 h11 M12 h12 M13 h13 M14 h14
    rw [← coord1 t]
    exact takes_45 c _ M2 h2 M3 h3 M4 h4 M5 h5 M6 h6 M7 h7 M8 h8 M9 h9 M10 h10 M11 h11 M12 h12 M13 h13 M14 h14 (stAt m c t a p (WQ m c) (WK m c) (KK m c b) qs ss)
      (fun h => by have := (cond1_iff t).1 h; omega) (fun h => by have := (cond2_iff t).1 h; omega) (fun h => by have := (cond3_iff t).1 h; omega) ((cond4_iff t).2 (by omega)) ((cond5_iff t).2 (by omega)) (fun h => by have := (cond6_iff t).1 h; omega) (fun h => by have := (cond7_iff t).1 h; omega)
  · rw [QQ_at b j ht.symm]
    exact I.step (fun _ _ => rfl) (fun y h => by have := hr y; omega) (fun _ _ => rfl) (fun y h => by have := hr y; omega) (fun _ _ _ => rfl) (fun y h => by have := hr y; omega) (fun y h => by have := hr y; omega)
      (fun j' h => slot_setSlot_ne _ _ _ _ (by omega)) (fun b' j' hb' hj' h => by
        obtain ⟨rfl, rfl⟩ : b' = b ∧ j' = j := by omega
        exact slot_setSlot_eq _ _ (by omega))
      (fun _ _ => rfl) (fun b j hb hj h => by omega)

/-- The second point of phase 2 or 4 computes the second block of queries and the first block of scores. -/
theorem point_456 (I : Inv m c t.val wq wk kk qs ss) (b j : ℕ) (hb : b < 2) (ht : t.val = 20 + 20 * b + j) (hj : j = 1) :
    PointSpec m c t a p wq wk kk qs ss := by
  obtain rfl := I.wk_eq (by omega)
  obtain rfl := I.wq_eq (by omega)
  obtain rfl := I.kk_eq b hb (by omega) (by omega)
  have hS : k0_pay5 (slot (setSlot qs (t.val % 10) (k0_pay4 (blk1 m c t) (WQ m c) (blk4 m c t))) (t.val % 10 + 1)) (KK m c b) = SS m c b (j - 1) := by
    unfold SS
    rw [slot_setSlot_ne _ _ _ _ (by omega), queries_read I b j hb ht (by omega) (by omega)]
  have hr := rows_lt
  refine ⟨a, p, WQ m c, WK m c, KK m c b, setSlot qs (t.val % 10) (k0_pay4 (blk1 m c t) (WQ m c) (blk4 m c t)), setSlot ss (t.val % 10 + 1) (k0_pay5 (slot (setSlot qs (t.val % 10) (k0_pay4 (blk1 m c t) (WQ m c) (blk4 m c t))) (t.val % 10 + 1)) (KK m c b)), ?_, ?_, fun h => by unfold Live at h; omega, fun _ => ⟨rfl, rfl⟩⟩
  · intro M2 h2 M3 h3 M4 h4 M5 h5 M6 h6 M7 h7 M8 h8 M9 h9 M10 h10 M11 h11 M12 h12 M13 h13 M14 h14
    rw [← coord1 t]
    exact takes_456 c _ M2 h2 M3 h3 M4 h4 M5 h5 M6 h6 M7 h7 M8 h8 M9 h9 M10 h10 M11 h11 M12 h12 M13 h13 M14 h14 (stAt m c t a p (WQ m c) (WK m c) (KK m c b) qs ss)
      (fun h => by have := (cond1_iff t).1 h; omega) (fun h => by have := (cond2_iff t).1 h; omega) (fun h => by have := (cond3_iff t).1 h; omega) ((cond4_iff t).2 (by omega)) ((cond5_iff t).2 (by omega)) ((cond6_iff t).2 (by omega)) (fun h => by have := (cond7_iff t).1 h; omega)
  · rw [hS, QQ_at b j ht.symm]
    exact I.step (fun _ _ => rfl) (fun y h => by have := hr y; omega) (fun _ _ => rfl) (fun y h => by have := hr y; omega) (fun _ _ _ => rfl) (fun y h => by have := hr y; omega) (fun y h => by have := hr y; omega)
      (fun j' h => slot_setSlot_ne _ _ _ _ (by omega)) (fun b' j' hb' hj' h => by
        obtain ⟨rfl, rfl⟩ : b' = b ∧ j' = j := by omega
        exact slot_setSlot_eq _ _ (by omega))
      (fun j' h => slot_setSlot_ne _ _ _ _ (by omega)) (fun b' j' hb' hj' h => by
        obtain ⟨rfl, rfl⟩ : b' = b ∧ j' = j - 1 := by omega
        exact slot_setSlot_eq _ _ (by omega))

/-- A middle point of phase 2 or 4 computes a block of queries, the scores of the block before and the outputs of the block before that. -/
theorem point_4567 (I : Inv m c t.val wq wk kk qs ss) (b j : ℕ) (hb : b < 2) (ht : t.val = 20 + 20 * b + j) (hj : 2 ≤ j ∧ j < 8) :
    PointSpec m c t a p wq wk kk qs ss := by
  obtain rfl := I.wk_eq (by omega)
  obtain rfl := I.wq_eq (by omega)
  obtain rfl := I.kk_eq b hb (by omega) (by omega)
  have hS : k0_pay5 (slot (setSlot qs (t.val % 10) (k0_pay4 (blk1 m c t) (WQ m c) (blk4 m c t))) (t.val % 10 + 1)) (KK m c b) = SS m c b (j - 1) := by
    unfold SS
    rw [slot_setSlot_ne _ _ _ _ (by omega), queries_read I b j hb ht (by omega) (by omega)]
  have hT : slot (setSlot ss (t.val % 10 + 1) (k0_pay5 (slot (setSlot qs (t.val % 10) (k0_pay4 (blk1 m c t) (WQ m c) (blk4 m c t))) (t.val % 10 + 1)) (KK m c b))) (t.val % 10) = SS m c (obat t.val) (oblk t.val) := by
    rw [slot_setSlot_ne _ _ _ _ (by omega), scores_read I b j hb ht (by omega) (by omega), out_at b j hb ht (by omega) (by omega)]
  have hr := rows_lt
  refine ⟨k0_pay7 (slot (setSlot ss (t.val % 10 + 1) (k0_pay5 (slot (setSlot qs (t.val % 10) (k0_pay4 (blk1 m c t) (WQ m c) (blk4 m c t))) (t.val % 10 + 1)) (KK m c b))) (t.val % 10)), k0_pay8 (slot (setSlot ss (t.val % 10 + 1) (k0_pay5 (slot (setSlot qs (t.val % 10) (k0_pay4 (blk1 m c t) (WQ m c) (blk4 m c t))) (t.val % 10 + 1)) (KK m c b))) (t.val % 10)), WQ m c, WK m c, KK m c b, setSlot qs (t.val % 10) (k0_pay4 (blk1 m c t) (WQ m c) (blk4 m c t)), setSlot ss (t.val % 10 + 1) (k0_pay5 (slot (setSlot qs (t.val % 10) (k0_pay4 (blk1 m c t) (WQ m c) (blk4 m c t))) (t.val % 10 + 1)) (KK m c b)), ?_, ?_, fun _ => ⟨congrArg k0_pay7 hT, congrArg k0_pay8 hT⟩, fun h => absurd (by unfold Live; omega) h⟩
  · intro M2 h2 M3 h3 M4 h4 M5 h5 M6 h6 M7 h7 M8 h8 M9 h9 M10 h10 M11 h11 M12 h12 M13 h13 M14 h14
    rw [← coord1 t]
    exact takes_4567 c _ M2 h2 M3 h3 M4 h4 M5 h5 M6 h6 M7 h7 M8 h8 M9 h9 M10 h10 M11 h11 M12 h12 M13 h13 M14 h14 (stAt m c t a p (WQ m c) (WK m c) (KK m c b) qs ss)
      (fun h => by have := (cond1_iff t).1 h; omega) (fun h => by have := (cond2_iff t).1 h; omega) (fun h => by have := (cond3_iff t).1 h; omega) ((cond4_iff t).2 (by omega)) ((cond5_iff t).2 (by omega)) ((cond6_iff t).2 (by omega)) ((cond7_iff t).2 (by omega))
  · rw [hS, QQ_at b j ht.symm]
    exact I.step (fun _ _ => rfl) (fun y h => by have := hr y; omega) (fun _ _ => rfl) (fun y h => by have := hr y; omega) (fun _ _ _ => rfl) (fun y h => by have := hr y; omega) (fun y h => by have := hr y; omega)
      (fun j' h => slot_setSlot_ne _ _ _ _ (by omega)) (fun b' j' hb' hj' h => by
        obtain ⟨rfl, rfl⟩ : b' = b ∧ j' = j := by omega
        exact slot_setSlot_eq _ _ (by omega))
      (fun j' h => slot_setSlot_ne _ _ _ _ (by omega)) (fun b' j' hb' hj' h => by
        obtain ⟨rfl, rfl⟩ : b' = b ∧ j' = j - 1 := by omega
        exact slot_setSlot_eq _ _ (by omega))

/-- The ninth point of phase 2 or 4 computes the last block of scores and the outputs of the block before. -/
theorem point_467 (I : Inv m c t.val wq wk kk qs ss) (b j : ℕ) (hb : b < 2) (ht : t.val = 20 + 20 * b + j) (hj : j = 8) :
    PointSpec m c t a p wq wk kk qs ss := by
  obtain rfl := I.wk_eq (by omega)
  obtain rfl := I.wq_eq (by omega)
  obtain rfl := I.kk_eq b hb (by omega) (by omega)
  have hS : k0_pay5 (slot (qs) (t.val % 10 + 1)) (KK m c b) = SS m c b (j - 1) := by
    unfold SS
    rw [queries_read I b j hb ht (by omega) (by omega)]
  have hT : slot (setSlot ss (t.val % 10 + 1) (k0_pay5 (slot (qs) (t.val % 10 + 1)) (KK m c b))) (t.val % 10) = SS m c (obat t.val) (oblk t.val) := by
    rw [slot_setSlot_ne _ _ _ _ (by omega), scores_read I b j hb ht (by omega) (by omega), out_at b j hb ht (by omega) (by omega)]
  have hr := rows_lt
  refine ⟨k0_pay7 (slot (setSlot ss (t.val % 10 + 1) (k0_pay5 (slot (qs) (t.val % 10 + 1)) (KK m c b))) (t.val % 10)), k0_pay8 (slot (setSlot ss (t.val % 10 + 1) (k0_pay5 (slot (qs) (t.val % 10 + 1)) (KK m c b))) (t.val % 10)), WQ m c, WK m c, KK m c b, qs, setSlot ss (t.val % 10 + 1) (k0_pay5 (slot (qs) (t.val % 10 + 1)) (KK m c b)), ?_, ?_, fun _ => ⟨congrArg k0_pay7 hT, congrArg k0_pay8 hT⟩, fun h => absurd (by unfold Live; omega) h⟩
  · intro M2 h2 M3 h3 M4 h4 M5 h5 M6 h6 M7 h7 M8 h8 M9 h9 M10 h10 M11 h11 M12 h12 M13 h13 M14 h14
    rw [← coord1 t]
    exact takes_467 c _ M2 h2 M3 h3 M4 h4 M5 h5 M6 h6 M7 h7 M8 h8 M9 h9 M10 h10 M11 h11 M12 h12 M13 h13 M14 h14 (stAt m c t a p (WQ m c) (WK m c) (KK m c b) qs ss)
      (fun h => by have := (cond1_iff t).1 h; omega) (fun h => by have := (cond2_iff t).1 h; omega) (fun h => by have := (cond3_iff t).1 h; omega) ((cond4_iff t).2 (by omega)) (fun h => by have := (cond5_iff t).1 h; omega) ((cond6_iff t).2 (by omega)) ((cond7_iff t).2 (by omega))
  · rw [hS]
    exact I.step (fun _ _ => rfl) (fun y h => by have := hr y; omega) (fun _ _ => rfl) (fun y h => by have := hr y; omega) (fun _ _ _ => rfl) (fun y h => by have := hr y; omega) (fun y h => by have := hr y; omega)
      (fun _ _ => rfl) (fun b j hb hj h => by omega)
      (fun j' h => slot_setSlot_ne _ _ _ _ (by omega)) (fun b' j' hb' hj' h => by
        obtain ⟨rfl, rfl⟩ : b' = b ∧ j' = j - 1 := by omega
        exact slot_setSlot_eq _ _ (by omega))

/-- The last point of phase 2 or 4 computes the outputs of the last block. -/
theorem point_47 (I : Inv m c t.val wq wk kk qs ss) (b j : ℕ) (hb : b < 2) (ht : t.val = 20 + 20 * b + j) (hj : j = 9) :
    PointSpec m c t a p wq wk kk qs ss := by
  obtain rfl := I.wk_eq (by omega)
  obtain rfl := I.wq_eq (by omega)
  obtain rfl := I.kk_eq b hb (by omega) (by omega)
  have hT : slot (ss) (t.val % 10) = SS m c (obat t.val) (oblk t.val) := by
    rw [scores_read I b j hb ht (by omega) (by omega), out_at b j hb ht (by omega) (by omega)]
  have hr := rows_lt
  refine ⟨k0_pay7 (slot (ss) (t.val % 10)), k0_pay8 (slot (ss) (t.val % 10)), WQ m c, WK m c, KK m c b, qs, ss, ?_, ?_, fun _ => ⟨congrArg k0_pay7 hT, congrArg k0_pay8 hT⟩, fun h => absurd (by unfold Live; omega) h⟩
  · intro M2 h2 M3 h3 M4 h4 M5 h5 M6 h6 M7 h7 M8 h8 M9 h9 M10 h10 M11 h11 M12 h12 M13 h13 M14 h14
    rw [← coord1 t]
    exact takes_47 c _ M2 h2 M3 h3 M4 h4 M5 h5 M6 h6 M7 h7 M8 h8 M9 h9 M10 h10 M11 h11 M12 h12 M13 h13 M14 h14 (stAt m c t a p (WQ m c) (WK m c) (KK m c b) qs ss)
      (fun h => by have := (cond1_iff t).1 h; omega) (fun h => by have := (cond2_iff t).1 h; omega) (fun h => by have := (cond3_iff t).1 h; omega) ((cond4_iff t).2 (by omega)) (fun h => by have := (cond5_iff t).1 h; omega) (fun h => by have := (cond6_iff t).1 h; omega) ((cond7_iff t).2 (by omega))
  · exact I.step (fun _ _ => rfl) (fun y h => by have := hr y; omega) (fun _ _ => rfl) (fun y h => by have := hr y; omega) (fun _ _ _ => rfl) (fun y h => by have := hr y; omega) (fun y h => by have := hr y; omega)
      (fun _ _ => rfl) (fun b j hb hj h => by omega)
      (fun _ _ => rfl) (fun b j hb hj h => by omega)

/-- Every point. -/
theorem point (I : Inv m c t.val wq wk kk qs ss) : PointSpec m c t a p wq wk kk qs ss := by
  have ht := lt_50 t
  have key : ∀ b, b < 2 → 20 + 20 * b ≤ t.val → t.val < 30 + 20 * b → PointSpec m c t a p wq wk kk qs ss := by
    intro b hb h h'
    have e : t.val = 20 + 20 * b + (t.val - (20 + 20 * b)) := by omega
    rcases (by omega : t.val - (20 + 20 * b) = 0 ∨ t.val - (20 + 20 * b) = 1 ∨ (2 ≤ t.val - (20 + 20 * b) ∧ t.val - (20 + 20 * b) < 8)
      ∨ t.val - (20 + 20 * b) = 8 ∨ t.val - (20 + 20 * b) = 9) with hj | hj | hj | hj | hj
    · exact point_45 I b _ hb e hj
    · exact point_456 I b _ hb e hj
    · exact point_4567 I b _ hb e hj
    · exact point_467 I b _ hb e hj
    · exact point_47 I b _ hb e hj
  rcases (by omega : t.val < 8 ∨ ((8 ≤ t.val ∧ t.val < 10) ∨ (18 ≤ t.val ∧ t.val < 20) ∨ (38 ≤ t.val ∧ t.val < 40)) ∨ (10 ≤ t.val ∧ t.val < 18)
    ∨ (30 ≤ t.val ∧ t.val < 38) ∨ (20 ≤ t.val ∧ t.val < 30) ∨ (40 ≤ t.val ∧ t.val < 50)) with h | h | h | h | h | h
  · exact point_1 I h
  · exact point_0 I h
  · exact point_23 I h
  · exact point_2 I h
  · exact key 0 (by omega) (by omega) (by omega)
  · exact key 1 (by omega) (by omega) (by omega)

end Cert.Proof.KI

end
-- ==== Proof.KI.Run.lean ====
/-
  The idealized kernel's run: the proof data of its one pipeline (the arrays at entry, what each window's staging buffer holds after the
  body at each point, the invariant on the carried scratch buffers), the body's obligation at every point, and from them the
  run of the whole program and the frame claim.
-/
module

public import proofs.«01_k».proof.Proof.KI.Point
public import proofs.«01_k».proof.Proof.Gen.KernelIdeal.Points
public import Idealize.ShloMosaic.Lib.Pipeline.TableIdle

@[expose] public section

set_option maxRecDepth 16384

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

/-- The proof's resource algebra. -/
local notation "𝕄" => MT nD τ sig Unit (Elt F) ℕ (UR sig nD τ) ℕ

variable (m : (ℓ : Loc nD τ sig) → Buf (Elt F) ℓ) (ρ : Dev nD → PrngReg)

/-! ## The proof data -/

/-- The five scratch buffers held whole at contents the invariant describes before point `n`. -/
def scratch (c : Dev nD) (n : ℕ) : sProp 𝕄 :=
  iprop(∃ (wq wk kk : Vec F S2048x2048 .bf16) (qs ss : Vec F S2x256x2048 .bf16), ⌜Inv m c n wq wk kk qs ss⌝
    ∗ owns (c : Thread nD τ) (Memref.whole cc0_scratch0 : Memref sig .tc .vmem S2048x2048 .bf16) fullShare wq
    ∗ owns (c : Thread nD τ) (Memref.whole cc0_scratch1 : Memref sig .tc .vmem S2048x2048 .bf16) fullShare wk
    ∗ owns (c : Thread nD τ) (Memref.whole cc0_scratch2 : Memref sig .tc .vmem S2048x2048 .bf16) fullShare kk
    ∗ owns (c : Thread nD τ) (Memref.whole cc0_scratch3 : Memref sig .tc .vmem S2x256x2048 .bf16) fullShare qs
    ∗ owns (c : Thread nD τ) (Memref.whole cc0_scratch4 : Memref sig .tc .vmem S2x256x2048 .bf16) fullShare ss)

/-- The arrays as the region finds them; after the body each input's staging buffer at its block and each output's at the
    block the outputs have at the point; the carried buffers at the invariant; an input array's share split among the
    windows that stage it; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 m c t.val
    | ⟨7, _⟩ => out7 m c t.val
  Φ n := iprop(scratch m c n.val ∗ ∃ r, prngReg c r)
  q w := Pipeline.shareOf spec0 w
  owed _ := 0

/-- Each array enters as the launch finds it. -/
theorem A_eq (c : Dev nD) (w : Fin cfg0.W) : (dats m 0 c).A w = V m c (Pipeline.arrRef spec0 w) := rfl
/-- The body leaves input window 0 as it was. -/
theorem after0_0 (c : Dev nD) (t : Fin cfg0.N) : (dats m 0 c).after 0 t = iblk m c 0 t := by dsimp only [dats]
/-- The body leaves input window 1 as it was. -/
theorem after0_1 (c : Dev nD) (t : Fin cfg0.N) : (dats m 0 c).after 1 t = iblk m c 1 t := by dsimp only [dats]
/-- The body leaves input window 2 as it was. -/
theorem after0_2 (c : Dev nD) (t : Fin cfg0.N) : (dats m 0 c).after 2 t = iblk m c 2 t := by dsimp only [dats]
/-- The body leaves input window 3 as it was. -/
theorem after0_3 (c : Dev nD) (t : Fin cfg0.N) : (dats m 0 c).after 3 t = iblk m c 3 t := by dsimp only [dats]
/-- The body leaves input window 4 as it was. -/
theorem after0_4 (c : Dev nD) (t : Fin cfg0.N) : (dats m 0 c).after 4 t = iblk m c 4 t := by dsimp only [dats]
/-- The body leaves input window 5 as it was. -/
theorem after0_5 (c : Dev nD) (t : Fin cfg0.N) : (dats m 0 c).after 5 t = iblk m c 5 t := by dsimp only [dats]
/-- What the body leaves in the first output window. -/
theorem after0_6 (c : Dev nD) (t : Fin cfg0.N) : (dats m 0 c).after 6 t = out6 m c t.val := by dsimp only [dats]
/-- What the body leaves in the second output window. -/
theorem after0_7 (c : Dev nD) (t : Fin cfg0.N) : (dats m 0 c).after 7 t = out7 m c t.val := by dsimp only [dats]

/-- Each input's staging buffer holds its block when the body runs. -/
theorem before0_0 (c : Dev nD) (t : Fin cfg0.N) (d) : (dats m 0 c).before 0 t d = iblk m c 0 t :=
  before0_0_of m (dats m 0 c) (A_eq m c 0) (after0_0 m c) t d
/-- Input window 1 holds its block when a point begins. -/
theorem before0_1 (c : Dev nD) (t : Fin cfg0.N) (d) : (dats m 0 c).before 1 t d = iblk m c 1 t :=
  before0_1_of m (dats m 0 c) (A_eq m c 1) (after0_1 m c) t d
/-- Input window 2 holds its block when a point begins. -/
theorem before0_2 (c : Dev nD) (t : Fin cfg0.N) (d) : (dats m 0 c).before 2 t d = iblk m c 2 t :=
  before0_2_of m (dats m 0 c) (A_eq m c 2) (after0_2 m c) t d
/-- Input window 3 holds its block when a point begins. -/
theorem before0_3 (c : Dev nD) (t : Fin cfg0.N) (d) : (dats m 0 c).before 3 t d = iblk m c 3 t :=
  before0_3_of m (dats m 0 c) (A_eq m c 3) (after0_3 m c) t d
/-- Input window 4 holds its block when a point begins. -/
theorem before0_4 (c : Dev nD) (t : Fin cfg0.N) (d) : (dats m 0 c).before 4 t d = iblk m c 4 t :=
  before0_4_of m (dats m 0 c) (A_eq m c 4) (after0_4 m c) t d
/-- Input window 5 holds its block when a point begins. -/
theorem before0_5 (c : Dev nD) (t : Fin cfg0.N) (d) : (dats m 0 c).before 5 t d = iblk m c 5 t :=
  before0_5_of m (dats m 0 c) (A_eq m c 5) (after0_5 m c) t d

/-! ## The points that store no output -/

/-- The body leaves output window 6 alone unless both of its conditions hold. -/
theorem idle6 (t : Fin cfg0.N) : cfg0.idle 6 (cfg0.grid.coords t) = !(k0_cond4 (grid0.coords t) == 1#1 && k0_cond7 (grid0.coords t) == 1#1) := rfl
/-- The body leaves output window 7 alone unless both of its conditions hold. -/
theorem idle7 (t : Fin cfg0.N) : cfg0.idle 7 (cfg0.grid.coords t) = !(k0_cond4 (grid0.coords t) == 1#1 && k0_cond7 (grid0.coords t) == 1#1) := rfl

/-- The points that write no output, in numbers. -/
theorem idle_iff (t : Fin cfg0.N) : (!(k0_cond4 (grid0.coords t) == 1#1 && k0_cond7 (grid0.coords t) == 1#1)) = true ↔ ¬ Live t.val := by
  rw [Bool.not_eq_true', ← Bool.not_eq_true, Bool.and_eq_true, beq_iff_eq, beq_iff_eq, cond4_iff, cond7_iff]
  exact Iff.rfl

/-- Window 6 is idle where no output is written. -/
theorem idle6_of (t : Fin cfg0.N) (h : ¬ Live t.val) : cfg0.idle 6 (cfg0.grid.coords t) = true := (idle6 t).trans ((idle_iff t).2 h)
/-- Window 7 is idle where no output is written. -/
theorem idle7_of (t : Fin cfg0.N) (h : ¬ Live t.val) : cfg0.idle 7 (cfg0.grid.coords t) = true := (idle7 t).trans ((idle_iff t).2 h)
/-- Window 6 is live where outputs are written. -/
theorem live6_of (t : Fin cfg0.N) (h : Live t.val) : cfg0.idle 6 (cfg0.grid.coords t) = false :=
  (idle6 t).trans (Bool.eq_false_iff.2 fun h' => (idle_iff t).1 h' h)
/-- Window 7 is live where outputs are written. -/
theorem live7_of (t : Fin cfg0.N) (h : Live t.val) : cfg0.idle 7 (cfg0.grid.coords t) = false :=
  (idle7 t).trans (Bool.eq_false_iff.2 fun h' => (idle_iff t).1 h' h)

/-- The points at which an output block is written back. -/
theorem flush6 : ∀ t : Fin cfg0.N, (cfg0.win 6).flushF t = true ↔ (22 ≤ t.val ∧ t.val < 29) ∨ t.val = 39 ∨ (42 ≤ t.val ∧ t.val < 50 ) := by
  decide +kernel
/-- The points that write back window 7. -/
theorem flush7 : ∀ t : Fin cfg0.N, (cfg0.win 7).flushF t = true ↔ (22 ≤ t.val ∧ t.val < 29) ∨ t.val = 39 ∨ (42 ≤ t.val ∧ t.val < 50) := by
  decide +kernel
/-- The points that write back window 6, as the run asks for them. -/
theorem flush6_iff (t : Fin cfg0.N) : (cfg0.win 6).flush t = true ↔ (22 ≤ t.val ∧ t.val < 29) ∨ t.val = 39 ∨ (42 ≤ t.val ∧ t.val < 50) := by
  rw [Pipeline.Window.flush_eq_flushF]; exact flush6 t
/-- The points that write back window 7, as the run asks for them. -/
theorem flush7_iff (t : Fin cfg0.N) : (cfg0.win 7).flush t = true ↔ (22 ≤ t.val ∧ t.val < 29) ∨ t.val = 39 ∨ (42 ≤ t.val ∧ t.val < 50) := by
  rw [Pipeline.Window.flush_eq_flushF]; exact flush7 t

/-- Through phase 3 the first output's staging buffer still holds the last block of batch 0, written back at its last point. -/
theorem before6_39 (c : Dev nD) (t : Fin cfg0.N) (ht : t.val = 39) (d) : (dats m 0 c).before 6 t d = out6 m c t.val := by
  rw [(dats m 0 c).before_idle_run 6 (fun t => (cfg0.win 6).fetch_out rfl t) d 9 t (by omega) (fun j h h' =>
      ⟨idle6_of j (by unfold Live; omega), Bool.eq_false_iff.2 fun hf => by have := (flush6_iff j).1 hf; omega⟩),
    (dats m 0 c).before_of_pos 6 _ (by show t.val - 9 ≠ 0; omega) ((cfg0.win 6).fetch_out rfl _) d,
    if_neg (fun hf => by have := (flush6_iff _).1 hf; simp only at this; omega)]
  unfold Dat.left
  rw [live6_of _ (by unfold Live; simp only; omega)]
  show (dats m 0 c).kept 6 _ d = _
  unfold Dat.kept
  rw [after0_6]
  show out6 m c (t.val - 9 - 1) = out6 m c t.val
  unfold out6
  rw [ht]
  rfl
/-- At point 39 window 7 still holds what it was left with ten points before. -/
theorem before7_39 (c : Dev nD) (t : Fin cfg0.N) (ht : t.val = 39) (d) : (dats m 0 c).before 7 t d = out7 m c t.val := by
  rw [(dats m 0 c).before_idle_run 7 (fun t => (cfg0.win 7).fetch_out rfl t) d 9 t (by omega) (fun j h h' =>
      ⟨idle7_of j (by unfold Live; omega), Bool.eq_false_iff.2 fun hf => by have := (flush7_iff j).1 hf; omega⟩),
    (dats m 0 c).before_of_pos 7 _ (by show t.val - 9 ≠ 0; omega) ((cfg0.win 7).fetch_out rfl _) d,
    if_neg (fun hf => by have := (flush7_iff _).1 hf; simp only at this; omega)]
  unfold Dat.left
  rw [live7_of _ (by unfold Live; simp only; omega)]
  show (dats m 0 c).kept 7 _ d = _
  unfold Dat.kept
  rw [after0_7]
  show out7 m c (t.val - 9 - 1) = out7 m c t.val
  unfold out7
  rw [ht]
  rfl

/-- What the body leaves in the first output's staging buffer is what the pipeline is told: the block's value where it is
    stored, what was found where it is not. -/
theorem leaves6 (c : Dev nD) (t : Fin cfg0.N) (d) (X : Vec F S1x256x2048 .f32) (hl : Live t.val → X = out6 m c t.val)
    (hn : ¬ Live t.val → X = (dats m 0 c).before 6 t d) :
    owns (c : Thread nD τ) ((cfg0.win 6).stage (cfg0.slots t 6)) fullShare X ⊢ ((dats m 0 c).leavesExact 6 t : sProp 𝕄) := by
  by_cases h : Live t.val
  · unfold Dat.leavesExact
    rw [live6_of t h, hl h, after0_6]
  · by_cases h39 : t.val = 39
    · unfold Dat.leavesExact
      rw [idle6_of t h, (flush6_iff t).2 (by omega), hn h, before6_39 m c t h39, after0_6]
    · rw [(dats m 0 c).leavesExact_idle 6 t (idle6_of t h)
        (Bool.eq_false_iff.2 fun hf => by have := (flush6_iff t).1 hf; unfold Live at h; omega), hn h]
      iintro H; iexists d; iexact H
/-- The same of the second output's. -/
theorem leaves7 (c : Dev nD) (t : Fin cfg0.N) (d) (X : Vec F S1x256x2048 .f32) (hl : Live t.val → X = out7 m c t.val)
    (hn : ¬ Live t.val → X = (dats m 0 c).before 7 t d) :
    owns (c : Thread nD τ) ((cfg0.win 7).stage (cfg0.slots t 7)) fullShare X ⊢ ((dats m 0 c).leavesExact 7 t : sProp 𝕄) := by
  by_cases h : Live t.val
  · unfold Dat.leavesExact
    rw [live7_of t h, hl h, after0_7]
  · by_cases h39 : t.val = 39
    · unfold Dat.leavesExact
      rw [idle7_of t h, (flush7_iff t).2 (by omega), hn h, before7_39 m c t h39, after0_7]
    · rw [(dats m 0 c).leavesExact_idle 7 t (idle7_of t h)
        (Bool.eq_false_iff.2 fun hf => by have := (flush7_iff t).1 hf; unfold Live at h; omega), hn h]
      iintro H; iexists d; iexact H

/-! ## The body obligation -/

/-- At every point the body, run from the buffers the pipeline hands it and the carried buffers at the invariant, leaves every
    buffer at what the proof data say and the carried buffers at the next point's invariant. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3, before0_4, before0_5]
  rw [show (dats m 0 c).Φ t.castSucc = iprop(scratch m c t.val ∗ ∃ r, prngReg c r) from rfl,
    show (dats m 0 c).Φ t.succ = iprop(scratch m c (t.val + 1) ∗ ∃ r, prngReg c r) from rfl,
    show (dats m 0 c).owesAt () t.succ = (dats m 0 c).owesAt () t.castSucc from rfl,
    after0_0, after0_1, after0_2, after0_3, after0_4, after0_5]
  unfold scratch
  iintro ⟨⟨⟨%wq, %wk, %kk, %qs, %ss, %I, S0, S1, S2, S3, S4⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
  obtain ⟨a', p', wq', wk', kk', qs', ss', hT, I', hl, hn⟩ :=
    point (a := (dats m 0 c).before 6 t d6) (p := (dats m 0 c).before 7 t d7) I
  iapply (hT _ _ _ _ _ _ _ _ _ _ _ _ _ _ _ _ _ _ _ _ _ _ _ _ _ _ Set.univ _)
  unfold held
  isplitl [S0 S1 S2 S3 S4 H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [S0]; · iexact S0
    isplitl [S1]; · iexact S1
    isplitl [S2]; · iexact S2
    isplitl [S3]; · iexact S3
    iexact S4
  iintro ⟨H0, H1, H2, H3, H4, H5, H6, H7, S0, S1, S2, S3, S4⟩
  isplitl [S0 S1 S2 S3 S4 Hr]
  · isplitl [S0 S1 S2 S3 S4]
    · iexists wq'; iexists wk'; iexists kk'; iexists qs'; iexists ss'
      isplitr; · ipureintro; exact I'
      isplitl [S0]; · iexact S0
      isplitl [S1]; · iexact S1
      isplitl [S2]; · iexact S2
      isplitl [S3]; · iexact S3
      iexact S4
    · iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iapply (leaves6 m c t d6 a' (fun h => (hl h).1) (fun h => (hn h).1)); iexact H6
  iapply (leaves7 m c t d7 p' (fun h => (hl h).2) (fun h => (hn h).2)); iexact H7

/-! ## The run -/

/-- The invariant holds of the scratch buffers at whatever they hold before the first point. -/
theorem enter (c : Dev nD) : ΦA spec0 c ⊢ ((dats m 0 c).Φ 0 : sProp 𝕄) := by
  rw [show (dats m 0 c).Φ 0 = iprop(scratch m c 0 ∗ ∃ r, prngReg c r) from rfl]
  unfold ΦA scratch
  rw [scopedRest0_eq]
  simp only [owns_whole]
  iintro ⟨⟨⟨%f0, S0⟩, ⟨%f1, S1⟩, ⟨%f2, S2⟩, ⟨%f3, S3⟩, ⟨%f4, S4⟩⟩, Hr⟩
  isplitr [Hr]
  · iexists f0; iexists f1; iexists f2; iexists f3; iexists f4
    isplitr; · ipureintro; exact Inv.zero
    isplitl [S0]; · iexact S0
    isplitl [S1]; · iexact S1
    isplitl [S2]; · iexact S2
    isplitl [S3]; · iexact S3
    iexact S4
  · iexact Hr

/-- After the last point the scratch buffers are handed back, their contents forgotten. -/
theorem leave (c : Dev nD) : ((dats m 0 c).Φ (Fin.last cfg0.N) : sProp 𝕄) ⊢ ΦA spec0 c := by
  rw [show (dats m 0 c).Φ (Fin.last cfg0.N) = iprop(scratch m c cfg0.N ∗ ∃ r, prngReg c r) from rfl]
  unfold ΦA scratch
  rw [scopedRest0_eq]
  simp only [owns_whole]
  iintro ⟨⟨%wq, %wk, %kk, %qs, %ss, -, S0, S1, S2, S3, S4⟩, Hr⟩
  isplitr [Hr]
  · isplitl [S0]; · iexists wq; iexact S0
    isplitl [S1]; · iexists wk; iexact S1
    isplitl [S2]; · iexists kk; iexact S2
    isplitl [S3]; · iexists qs; iexact S3
    iexists ss; iexact S4
  · iexact Hr

-- so that the launch theorem's implicit arguments are found
set_option backward.isDefEq.respectTransparency.types false in
/-- From any memory with zero counters every weakly fair execution of the program terminates, every array of the pipeline at
    what the proof data say of it, every other array as the region found it, every semaphore counter at zero. -/
theorem run_main : θ_run defs (onTc (τ := τ) (main (F := F))) (s₀ m ρ)
    (fun r => Pipeline.FramePost cfgs (dats m) 0 (V m) r ∧ r.2.sem = fun _ => 0) :=
  Pipeline.θ_run_frame_track_shared (Q' := fun r => Pipeline.FramePost cfgs (dats m) 0 (V m) r ∧ r.2.sem = fun _ => 0)
    cfgs (dats m) (0 : Fin 1) launch₀0 defs₀ 𝒱₀ m ρ main
    (hbody := fun c => (body_obligation m c).loose) (hq := fun _ _ _ => rfl)
    (howed := fun _ _ => rfl) (V := V m) (hmain := hmain m 𝒱₀) (hA := fun _ _ => rfl)
    (hin := fun c => enter m c) (hout := fun c => leave m c)

/-- The frame claim: the run ends with the arguments as they were and every counter at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_with_sems (frame_of m ρ (dats m) fun _ _ => rfl) (run_main (F := F) m ρ)

end Cert.Proof.KI

end
-- ==== Proof.KI.Array.lean ====
/-
  What the two result arrays hold after the run, block by block: rows `256 j … 256 j + 255` of batch `b` are what the point
  that finishes block `j` of batch `b` leaves in the output windows. Also where the six input blocks lie in their arrays.
-/
module

public import proofs.«01_k».proof.Proof.KI.Run
public import Idealize.ShloMosaic.Lib.Pipeline.ValueKit
public import Idealize.ShloMosaic.Lib.Pointwise

@[expose] public section

set_option maxRecDepth 16384

noncomputable section

namespace Cert.Proof.KI

open Cert.KernelIdeal Cert.KernelIdeal.Gen

open Idealize.ShloMosaic
open Idealize.ShloMosaic.TcCoe
open Idealize.SL Idealize.SL.Sem
open Idealize.ShloMosaic.Pipeline (Dat Cfg Window)

variable {F : FTy → Type} [FloatOps F] [Named F]

variable (m : (ℓ : Loc nD τ sig) → Buf (Elt F) ℓ) (ρ : Dev nD → PrngReg)

/-! ## Block indices -/

/-- The block of the first output that a flushing point writes back. -/
theorem index6 : ∀ t : Fin cfg0.N, (cfg0.win 6).flush t = true → win0_6.index t = ![obat t.val, oblk t.val, 0] := by decide +kernel
/-- The block of the second output that a flushing point writes back. -/
theorem index7 : ∀ t : Fin cfg0.N, (cfg0.win 7).flush t = true → win0_7.index t = ![obat t.val, oblk t.val, 0] := by decide +kernel

/-- The activations' block read for the keys: block `j` of batch `b` at point `10 + 20 b + j`. -/
theorem index0 : ∀ b : Fin 2, ∀ j : Fin 8, win0_0.index (pt (10 + 20 * b.val + j.val)) = ![b.val, j.val, 0] := by decide +kernel
/-- The activations' block read for the queries: block `j` of batch `b` at point `20 + 20 b + j`. -/
theorem index1 : ∀ b : Fin 2, ∀ j : Fin 8, win0_1.index (pt (20 + 20 * b.val + j.val)) = ![b.val, j.val, 0] := by decide +kernel
/-- The query weights' block `j` at point `10 + j`. -/
theorem index2 : ∀ j : Fin 8, win0_2.index (pt (10 + j.val)) = ![j.val, 0] := by decide +kernel
/-- The key weights' block `j` at point `j`. -/
theorem index3 : ∀ j : Fin 8, win0_3.index (pt j.val) = ![j.val, 0] := by decide +kernel
/-- The query bias is one block. -/
theorem index4 : ∀ t : Fin cfg0.N, win0_4.index t = ![0, 0] := by decide +kernel
/-- The key bias is one block. -/
theorem index5 : ∀ t : Fin cfg0.N, win0_5.index t = ![0, 0] := by decide +kernel

/-! ## The input blocks at coordinates -/

/-- Block `j` of batch `b` of the activations, as read for the keys. -/
theorem blk0_at (c : Dev nD) (b : Fin 2) (j : Fin 8) (r : Fin 256) (e : Fin 2048) :
    blk0 m c (pt (10 + 20 * b.val + j.val)) (ix3 (0 : Fin 1) r e)
      = m ((c : Thread nD τ).loc main_arg0) (ix3 b (⟨256 * j.val + r.val, by omega⟩ : Fin 2048) e) := by
  have h := index0 b j
  generalize pt (10 + 20 * b.val + j.val) = t at h
  rw [← V_main_arg0 m c]
  blk_simp [blk0, iblk]
  refine congrArg (V m c main_arg0) ?_
  blk_ext [h]

/-- Block `j` of batch `b` of the activations, as read for the queries. -/
theorem blk1_at (c : Dev nD) (b : Fin 2) (j : Fin 8) (r : Fin 256) (e : Fin 2048) :
    blk1 m c (pt (20 + 20 * b.val + j.val)) (ix3 (0 : Fin 1) r e)
      = m ((c : Thread nD τ).loc main_arg0) (ix3 b (⟨256 * j.val + r.val, by omega⟩ : Fin 2048) e) := by
  have h := index1 b j
  generalize pt (20 + 20 * b.val + j.val) = t at h
  rw [← V_main_arg0 m c]
  blk_simp [blk1, iblk]
  refine congrArg (V m c main_arg0) ?_
  blk_ext [h]

/-- Block `j` of the query weights. -/
theorem blk2_at (c : Dev nD) (j : Fin 8) (r : Fin 256) (e : Fin 2048) :
    blk2 m c (pt (10 + j.val)) (ix2 r e)
      = m ((c : Thread nD τ).loc main_arg1) (ix2 (⟨256 * j.val + r.val, by omega⟩ : Fin 2048) e) := by
  have h := index2 j
  generalize pt (10 + j.val) = t at h
  rw [← V_main_arg1 m c]
  blk_simp [blk2, iblk]
  refine congrArg (V m c main_arg1) ?_
  blk_ext [h]

/-- Block `j` of the key weights. -/
theorem blk3_at (c : Dev nD) (j : Fin 8) (r : Fin 256) (e : Fin 2048) :
    blk3 m c (pt j.val) (ix2 r e)
      = m ((c : Thread nD τ).loc main_arg3) (ix2 (⟨256 * j.val + r.val, by omega⟩ : Fin 2048) e) := by
  have h := index3 j
  generalize pt j.val = t at h
  rw [← V_main_arg3 m c]
  blk_simp [blk3, iblk]
  refine congrArg (V m c main_arg3) ?_
  blk_ext [h]

/-- The query bias as a row, when the launch begins. -/
theorem V_bias_q (c : Dev nD) (d : Fin 2048) :
    V m c main_v0 (ix2 (0 : Fin 1) d) = m ((c : Thread nD τ).loc main_arg2) (ix1 d) := by
  have e : V m c main_v0 = shapeCast S1x2048 (m ((c : Thread nD τ).loc main_arg2) : S2048.Idx → Elt F .f32) shapeCasts_S2048_S1x2048 := by
    dsimp only [V, hostOps0]
    after_results
    rfl
  rw [e]
  pointwise

/-- The key bias as a row, when the launch begins. -/
theorem V_bias_k (c : Dev nD) (d : Fin 2048) :
    V m c main_v1 (ix2 (0 : Fin 1) d) = m ((c : Thread nD τ).loc main_arg4) (ix1 d) := by
  have e : V m c main_v1 = shapeCast S1x2048 (m ((c : Thread nD τ).loc main_arg4) : S2048.Idx → Elt F .f32) shapeCasts_S2048_S1x2048 := by
    dsimp only [V, hostOps0]
    after_results
    rfl
  rw [e]
  pointwise

/-- The query bias's one block. -/
theorem blk4_at (c : Dev nD) (t : Fin cfg0.N) (d : Fin 2048) :
    blk4 m c t (ix2 (0 : Fin 1) d) = m ((c : Thread nD τ).loc main_arg2) (ix1 d) := by
  have h := index4 t
  rw [← V_bias_q m c]
  blk_simp [blk4, iblk]
  refine congrArg (V m c main_v0) ?_
  blk_ext [h]

/-- The key bias's one block. -/
theorem blk5_at (c : Dev nD) (t : Fin cfg0.N) (d : Fin 2048) :
    blk5 m c t (ix2 (0 : Fin 1) d) = m ((c : Thread nD τ).loc main_arg4) (ix1 d) := by
  have h := index5 t
  rw [← V_bias_k m c]
  blk_simp [blk5, iblk]
  refine congrArg (V m c main_v1) ?_
  blk_ext [h]

/-! ## The result arrays -/

/-- The place of an index of a result within its block of 256 rows. -/
def inBlk (i : S2x2048x2048.Idx) : S1x256x2048.Idx :=
  ix3 (0 : Fin 1) (⟨(i (1 : Fin 3)).val % 256, Nat.mod_lt _ (by decide)⟩ : Fin 256) (i (2 : Fin 3))

/-- What the first result holds: at batch `b`, row `i`, the value of block `i / 256` of batch `b`. -/
def arr6 (c : Dev nD) : S2x2048x2048.Idx → Elt F .f32 := fun i =>
  k0_pay7 (SS m c (i (0 : Fin 3)).val ((i (1 : Fin 3)).val / 256)) (inBlk i)
/-- What the second result holds. -/
def arr7 (c : Dev nD) : S2x2048x2048.Idx → Elt F .f32 := fun i =>
  k0_pay8 (SS m c (i (0 : Fin 3)).val ((i (1 : Fin 3)).val / 256)) (inBlk i)

/-- An index of a result in row `r` of block `j` of batch `b` reads the block's own index. -/
theorem inBlk_eq (i : S2x2048x2048.Idx) (y : S1x256x2048.Idx) (b j : ℕ) (h0 : (i (0 : Fin 3)).val = b)
    (h1 : (i (1 : Fin 3)).val = j * 256 + (y (1 : Fin 3)).val) (h2 : (i (2 : Fin 3)).val = (y (2 : Fin 3)).val) :
    (i (0 : Fin 3)).val = b ∧ (i (1 : Fin 3)).val / 256 = j ∧ inBlk i = y := by
  have l0 : (y (0 : Fin 3)).val < 1 := (y (0 : Fin 3)).isLt
  have l1 : (y (1 : Fin 3)).val < 256 := (y (1 : Fin 3)).isLt
  refine ⟨h0, by omega, funext fun a => Fin.ext ?_⟩
  fin_cases a
  · show 0 = (y (0 : Fin 3)).val
    omega
  · show (i (1 : Fin 3)).val % 256 = (y (1 : Fin 3)).val
    omega
  · exact h2

/-- The first result after the run. -/
theorem final6 (c : Dev nD) : (dats m 0 c).arrAt 6 cfg0.N = arr6 m c := by
  refine (dats m 0 c).arrAt_eq_of_covers 6 _ (by decide +kernel) fun t hf y => ?_
  have h := index6 t hf
  have hy0 : (y (0 : Fin 3)).val < 1 := (y (0 : Fin 3)).isLt
  have k := inBlk_eq ((win0_6.blk t).view.emb y) y (obat t.val) (oblk t.val) (by blk_simp [h]) (by blk_simp [h]) (by blk_simp [h])
  blk_simp
  rw [after0_6]
  show k0_pay7 (SS m c (obat t.val) (oblk t.val)) y = arr6 m c ((win0_6.blk t).view.emb y)
  unfold arr6
  rw [k.1, k.2.1, k.2.2]

/-- The second result after the run. -/
theorem final7 (c : Dev nD) : (dats m 0 c).arrAt 7 cfg0.N = arr7 m c := by
  refine (dats m 0 c).arrAt_eq_of_covers 7 _ (by decide +kernel) fun t hf y => ?_
  have h := index7 t hf
  have hy0 : (y (0 : Fin 3)).val < 1 := (y (0 : Fin 3)).isLt
  have k := inBlk_eq ((win0_7.blk t).view.emb y) y (obat t.val) (oblk t.val) (by blk_simp [h]) (by blk_simp [h]) (by blk_simp [h])
  blk_simp
  rw [after0_7]
  show k0_pay8 (SS m c (obat t.val) (oblk t.val)) y = arr7 m c ((win0_7.blk t).view.emb y)
  unfold arr7
  rw [k.1, k.2.1, k.2.2]

/-- The run with both results named: they end at `arr6` and `arr7`, the arguments as they were. -/
theorem run : θ_run defs (onTc (τ := τ) (main (F := F))) ⟨m, fun _ => 0, ρ⟩ (fun r => ∀ c : Dev nD,
      r.2.mem ((c.tc : Thread nD τ).loc main_v2_0) = arr6 m c
      ∧ r.2.mem ((c.tc : Thread nD τ).loc main_v2_1) = arr7 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h.1 c).1 6).trans (final6 m c), ((h.1 c).1 7).trans (final7 m c),
      ((h.1 c).1 0).trans (((dats m 0 c).arrAt_in 0 rfl _).trans ((A_eq m c 0).trans (V_main_arg0 m c))),
      ((h.1 c).1 2).trans (((dats m 0 c).arrAt_in 2 rfl _).trans ((A_eq m c 2).trans (V_main_arg1 m c))),
      ((h.1 c).2 main_arg2 (by decide)).trans (V_main_arg2 m c),
      ((h.1 c).1 3).trans (((dats m 0 c).arrAt_in 3 rfl _).trans ((A_eq m c 3).trans (V_main_arg3 m c))),
      ((h.1 c).2 main_arg4 (by decide)).trans (V_main_arg4 m c)⟩)
    (run_main m ρ)

end Cert.Proof.KI

end
-- ==== Proof.Consts.lean ====
/-
  The one float constant the reference spells, as the real number its pattern denotes, and its square root.
-/
module

public import Idealize.ShloMosaic.PureOps.Ideal

@[expose] public section

noncomputable section

namespace Cert.Proof.Consts

open Idealize.ShloMosaic

/-- The pattern of `2048.0` denotes the real number 2048. -/
theorem ofBits_2048 : Ideal.ofBits .f32 0x45000000#32 = ((2048 : ℝ) : EReal) := by
  simp [Ideal.ofBits, Ideal.ieee, -EReal.coe_mul]; norm_num

/-- Its root is the real root. -/
theorem sqrt_2048 : Ideal.sqrt ((2048 : ℝ) : EReal) = ((Real.sqrt 2048 : ℝ) : EReal) := by
  rw [Ideal.sqrt_coe, if_neg (by norm_num)]

/-- The root is not zero. -/
theorem root_ne : Real.sqrt 2048 ≠ 0 := (Real.sqrt_pos.mpr (by norm_num)).ne'

/-- The inverse root is not negative. -/
theorem inv_root_nonneg : (0 : EReal) ≤ (((Real.sqrt 2048)⁻¹ : ℝ) : EReal) :=
  EReal.coe_nonneg.mpr (inv_nonneg.mpr (Real.sqrt_nonneg _))

/-- Dividing an extended real by the root is multiplying it by the inverse root. -/
theorem div_root (x : EReal) : Ideal.div x ((Real.sqrt 2048 : ℝ) : EReal) = x * (((Real.sqrt 2048)⁻¹ : ℝ) : EReal) := by
  rw [Ideal.div_coe root_ne, one_div]

/-- A real factor that is not negative distributes over a finite sum of extended reals. -/
theorem sum_mul_real {ι : Type*} (s : Finset ι) (f : ι → EReal) (c : ℝ) (hc : (0 : EReal) ≤ (c : EReal)) :
    ∑ k ∈ s, f k * (c : EReal) = (∑ k ∈ s, f k) * (c : EReal) := by
  classical
  induction s using Finset.induction_on with
  | empty => simp
  | insert a s ha ih =>
    rw [Finset.sum_insert ha, Finset.sum_insert ha, ih, mul_comm (f a + _) (c : EReal),
      EReal.left_distrib_of_nonneg_of_ne_top hc (EReal.coe_ne_top c), mul_comm (c : EReal), mul_comm (c : EReal)]

/-- Scaling the left factors of a sum of products scales the sum. -/
theorem sum_scaled {n : ℕ} (f g : Fin n → EReal) (c : ℝ) (hc : (0 : EReal) ≤ (c : EReal)) :
    ∑ k, (f k * (c : EReal)) * g k = (∑ k, f k * g k) * (c : EReal) :=
  (Finset.sum_congr rfl fun k _ => mul_right_comm (f k) (c : EReal) (g k)).trans (sum_mul_real _ (fun k => f k * g k) c hc)

end Cert.Proof.Consts

end
-- ==== Proof.Formula.lean ====
/-
  The mathematics both programs compute, written once over the five argument arrays: the projections of the activations, and
  the scaled scores of the queries against the keys.
-/
module

public import Idealize.ShloMosaic.PureOps.Ideal
public import Idealize.ShloMosaic.Lib.Pointwise

@[expose] public section

noncomputable section

namespace Cert.Proof

open Idealize.ShloMosaic

/-- An array of two batches of 2048 rows of 2048 extended reals. -/
abbrev Cube : Type := FVec Ideal ⟨3, ![2, 2048, 2048]⟩ .f32
/-- A square array of extended reals. -/
abbrev Square : Type := FVec Ideal ⟨2, ![2048, 2048]⟩ .f32
/-- A row of extended reals. -/
abbrev Row : Type := FVec Ideal ⟨1, ![2048]⟩ .f32

/-- The projection of row `i` of batch `b` on row `d` of the weights, plus the bias. -/
def proj (X : Cube) (W : Square) (β : Row) (b : Fin 2) (i d : Fin 2048) : EReal :=
  ∑ e : Fin 2048, X (ix3 b i e) * W (ix2 d e) + β (ix1 d)

/-- The scaled score of row `i` against row `j` of batch `b`. -/
def score (X : Cube) (Wq : Square) (βq : Row) (Wk : Square) (βk : Row) (b : Fin 2) (i j : Fin 2048) : EReal :=
  (∑ d : Fin 2048, proj X Wq βq b i d * proj X Wk βk b j d) * (((Real.sqrt 2048)⁻¹ : ℝ) : EReal)

end Cert.Proof

end
-- ==== Proof.KI.Exact.lean ====
/-
  The idealized kernel's values in exact arithmetic, element by element: the rounded weights are the weights, the keys and the
  queries their projections of the activations plus the bias, the scores the products of the two.
-/
module

public import proofs.«01_k».proof.Proof.KI.Array
public import proofs.«01_k».proof.Proof.Consts
public import proofs.«01_k».proof.Proof.Formula

@[expose] public section

set_option maxRecDepth 16384

noncomputable section

namespace Cert.Proof.KI

open Cert.KernelIdeal Cert.KernelIdeal.Gen
open Cert.Proof.Consts

open Idealize.ShloMosaic
open Idealize.ShloMosaic.TcCoe
open Idealize.SL Idealize.SL.Sem

/-! ## One block -/

/-- The named constant is the inverse root of 2048. -/
theorem scale_eq : Named.named (F := Ideal) κ "scale" (φ := .f32) 0x3CB504F3#32 = (((Real.sqrt 2048)⁻¹ : ℝ) : EReal) :=
  IdealRules.named_const.ideal_named_scalar _ _ _ _ rfl

/-- Rounding a block of key weights keeps it. -/
theorem pay1_at (w : FVec Ideal S256x2048 .f32) (r : Fin 256) (e : Fin 2048) : k0_pay1 (F := Ideal) w (ix2 r e) = w (ix2 r e) := by
  pointwise [k0_pay1]

/-- Rounding a block of query weights keeps it. -/
theorem pay3_at (w : FVec Ideal S256x2048 .f32) (r : Fin 256) (e : Fin 2048) : k0_pay3 (F := Ideal) w (ix2 r e) = w (ix2 r e) := by
  pointwise [k0_pay3]

/-- A block of keys: each row of activations against each row of weights, plus the bias. -/
theorem pay2_at (x : FVec Ideal S1x256x2048 .f32) (w : FVec Ideal S2048x2048 .bf16) (b : FVec Ideal S1x2048 .f32) (r : Fin 256) (d : Fin 2048) :
    k0_pay2 (F := Ideal) x w b (ix2 r d) = ∑ e : Fin 2048, x (ix3 (0 : Fin 1) r e) * w (ix2 d e) + b (ix2 (0 : Fin 1) d) := by
  pointwise [k0_pay2]

/-- A block of queries: the same, scaled. -/
theorem pay4_at (x : FVec Ideal S1x256x2048 .f32) (w : FVec Ideal S2048x2048 .bf16) (b : FVec Ideal S1x2048 .f32) (r : Fin 256) (d : Fin 2048) :
    k0_pay4 (F := Ideal) x w b (ix3 (0 : Fin 1) r d)
      = (∑ e : Fin 2048, x (ix3 (0 : Fin 1) r e) * w (ix2 d e) + b (ix2 (0 : Fin 1) d)) * (((Real.sqrt 2048)⁻¹ : ℝ) : EReal) := by
  pointwise [k0_pay4, scale_eq]

/-- A block of scores: each query against each key. -/
theorem pay5_at (q : FVec Ideal S1x256x2048 .bf16) (k : FVec Ideal S2048x2048 .bf16) (r : Fin 256) (s : Fin 2048) :
    k0_pay5 (F := Ideal) q k (ix3 (0 : Fin 1) r s) = ∑ d : Fin 2048, q (ix3 (0 : Fin 1) r d) * k (ix2 s d) := by
  pointwise [k0_pay5]

/-- A block of the first result: the tangents where positive, zero elsewhere. -/
theorem pay7_at (s : FVec Ideal S1x256x2048 .bf16) (r : Fin 256) (j : Fin 2048) :
    k0_pay7 (F := Ideal) s (ix3 (0 : Fin 1) r j) = max (Ideal.tanh (s (ix3 (0 : Fin 1) r j))) 0 := by
  pointwise [k0_pay7, k0_pay6]

/-- A block of the second result: the tangents where negative, zero elsewhere. -/
theorem pay8_at (s : FVec Ideal S1x256x2048 .bf16) (r : Fin 256) (j : Fin 2048) :
    k0_pay8 (F := Ideal) s (ix3 (0 : Fin 1) r j) = min (Ideal.tanh (s (ix3 (0 : Fin 1) r j))) 0 := by
  pointwise [k0_pay8, k0_pay6]

/-! ## The carried buffers -/

variable (m : (ℓ : Loc nD τ sig) → Buf (Elt Ideal) ℓ) (c : Dev nD)

/-- The activations. -/
abbrev argX : Cube := m ((c : Thread nD τ).loc main_arg0)
/-- The query weights. -/
abbrev argWq : Square := m ((c : Thread nD τ).loc main_arg1)
/-- The query bias. -/
abbrev argBq : Row := m ((c : Thread nD τ).loc main_arg2)
/-- The key weights. -/
abbrev argWk : Square := m ((c : Thread nD τ).loc main_arg3)
/-- The key bias. -/
abbrev argBk : Row := m ((c : Thread nD τ).loc main_arg4)

/-- The row `i % 256` of block `i / 256` is row `i`. -/
theorem row_eq (i : Fin 2048) (h : 256 * (i.val / 256) + i.val % 256 < 2048) : (⟨256 * (i.val / 256) + i.val % 256, h⟩ : Fin 2048) = i :=
  Fin.ext (Nat.div_add_mod i.val 256)

/-- The block of a row. -/
def bj (i : Fin 2048) : Fin 8 := ⟨i.val / 256, by omega⟩
/-- The place of a row in its block. -/
def br (i : Fin 2048) : Fin 256 := ⟨i.val % 256, by omega⟩

/-- The place of an index within its block, by coordinates. -/
theorem loc_ix2 (i e : Fin 2048) : loc (ix2 i e) = ix2 (br i) e := by
  funext a
  fin_cases a <;> rfl

/-- A square array put together from blocks, read at a row and column. -/
theorem asm_at {α : Type} (f : ℕ → S256x2048.Idx → α) (i e : Fin 2048) : asm f (ix2 i e) = f (bj i).val (ix2 (br i) e) :=
  congrArg (f (i.val / 256)) (loc_ix2 i e)

/-- The rounded key weights are the key weights. -/
theorem keyWeights_eq (d e : Fin 2048) : WK m c (ix2 d e) = argWk m c (ix2 d e) := by
  refine (asm_at _ d e).trans ((pay1_at _ _ _).trans ((blk3_at m c (bj d) (br d) e).trans ?_))
  exact congrArg (fun i => argWk m c (ix2 i e)) (row_eq d _)

/-- The rounded query weights are the query weights. -/
theorem queryWeights_eq (d e : Fin 2048) : WQ m c (ix2 d e) = argWq m c (ix2 d e) := by
  refine (asm_at _ d e).trans ((pay3_at _ _ _).trans ((blk2_at m c (bj d) (br d) e).trans ?_))
  exact congrArg (fun i => argWq m c (ix2 i e)) (row_eq d _)

/-- The keys are the projections on the key weights. -/
theorem keys_eq (b : Fin 2) (i d : Fin 2048) : KK m c b.val (ix2 i d) = proj (argX m c) (argWk m c) (argBk m c) b i d := by
  refine (asm_at _ i d).trans ((pay2_at _ _ _ _ _).trans ?_)
  refine congrArg₂ (· + ·) (Finset.sum_congr rfl fun e _ => congrArg₂ (· * ·) ((blk0_at m c b (bj i) (br i) e).trans ?_) (keyWeights_eq m c d e)) (blk5_at m c _ d)
  exact congrArg (fun r => argX m c (ix3 b r e)) (row_eq i _)

/-- The queries are the scaled projections on the query weights. -/
theorem queries_eq (b : Fin 2) (i d : Fin 2048) :
    QQ m c b.val (bj i).val (ix3 (0 : Fin 1) (br i) d)
      = proj (argX m c) (argWq m c) (argBq m c) b i d * (((Real.sqrt 2048)⁻¹ : ℝ) : EReal) := by
  refine (pay4_at _ _ _ _ _).trans (congrArg (· * _) ?_)
  refine congrArg₂ (· + ·) (Finset.sum_congr rfl fun e _ => congrArg₂ (· * ·) ((blk1_at m c b (bj i) (br i) e).trans ?_) (queryWeights_eq m c d e)) (blk4_at m c _ d)
  exact congrArg (fun r => argX m c (ix3 b r e)) (row_eq i _)

/-- The scores: scaling the queries scales the scores. -/
theorem scores_eq (b : Fin 2) (i j : Fin 2048) :
    SS m c b.val (bj i).val (ix3 (0 : Fin 1) (br i) j)
      = score (argX m c) (argWq m c) (argBq m c) (argWk m c) (argBk m c) b i j := by
  refine (pay5_at _ _ _ _).trans ?_
  refine (Finset.sum_congr rfl fun d _ => congrArg₂ (· * ·) (queries_eq m c b i d) (keys_eq m c b j d)).trans ?_
  exact sum_scaled _ _ _ inv_root_nonneg

/-! ## The results -/

/-- The first result: the scores' hyperbolic tangents where positive, zero elsewhere. -/
theorem arr6_at (b : Fin 2) (i j : Fin 2048) :
    arr6 m c (ix3 b i j) = max (Ideal.tanh (score (argX m c) (argWq m c) (argBq m c) (argWk m c) (argBk m c) b i j)) 0 :=
  (pay7_at _ (br i) j).trans (congrArg (fun z => max (Ideal.tanh z) 0) (scores_eq m c b i j))

/-- The second result: the scores' hyperbolic tangents where negative, zero elsewhere. -/
theorem arr7_at (b : Fin 2) (i j : Fin 2048) :
    arr7 m c (ix3 b i j) = min (Ideal.tanh (score (argX m c) (argWq m c) (argBq m c) (argWk m c) (argBk m c) b i j)) 0 :=
  (pay8_at _ (br i) j).trans (congrArg (fun z => min (Ideal.tanh z) 0) (scores_eq m c b i j))

end Cert.Proof.KI

end
-- ==== Proof.Reference.lean ====
/-
  What the reference computes, element by element in exact arithmetic: the same projections and scores, the division by the
  root of 2048 read as a product with its inverse, and the two selections read as a maximum and a minimum with zero.
-/
module

public import proofs.«01_k».proof.Proof.Gen.ReferenceIdeal.Run
public import proofs.«01_k».proof.Proof.Consts
public import proofs.«01_k».proof.Proof.Formula

@[expose] public section

set_option maxRecDepth 16384

noncomputable section

namespace Cert.Proof.RI

open Cert.ReferenceIdeal Cert.ReferenceIdeal.Gen
open Cert.Proof.Consts

open Idealize.ShloMosaic
open Idealize.ShloMosaic.TcCoe
open Idealize.SL Idealize.SL.Sem

variable (X : FVec Ideal S2x2048x2048 .f32) (W Wq Wk : FVec Ideal S2048x2048 .f32) (β βq βk : FVec Ideal S2048 .f32)

/-- The reference's projection of the activations: rows against rows of the weights, plus the bias. -/
def projArr : FVec Ideal S2x2048x2048 .f32 :=
  addf (Host.dotGeneral dot_S2x2048x2048_S2048x2048_S2x2048x2048_2_0_01_1_n_n none X (transpose S2048x2048 [1, 0] W transposes_S2048x2048_S2048x2048_1_0))
    (broadcastInDim S2x2048x2048 ![0, 1, 2] bcast_S1x1x2048_S2x2048x2048_0_1_2 (broadcastInDim S1x1x2048 ![2] bcast_S2048_S1x1x2048_2 β))

/-- Read at an index it is the projection. -/
theorem projArr_at (b : Fin 2) (i d : Fin 2048) : projArr X W β (ix3 b i d) = proj X W β b i d := by
  pointwise [projArr, proj]

/-- The reference's scores over the root of 2048, under the hyperbolic tangent. -/
def tanhArr (q k : FVec Ideal S2x2048x2048 .f32) : FVec Ideal S2x2048x2048 .f32 :=
  Host.tanh (Host.divf
    (Host.dotGeneral dot_S2x2048x2048_S2x2048x2048_S2x2048x2048_2_1_1_2_0_0 none q
      (transpose S2x2048x2048 [0, 2, 1] k transposes_S2x2048x2048_S2x2048x2048_0_2_1))
    (broadcastInDim S2x2048x2048 ![] bcast_S_S2x2048x2048 (Host.sqrt (constant S_ .f32 0x45000000#32))))

/-- Read at an index: the tangent of the scaled sum of products. -/
theorem tanhArr_at (q k : FVec Ideal S2x2048x2048 .f32) (b : Fin 2) (i j : Fin 2048) :
    tanhArr q k (ix3 b i j)
      = Ideal.tanh ((∑ d : Fin 2048, q (ix3 b i d) * k (ix3 b j d)) * (((Real.sqrt 2048)⁻¹ : ℝ) : EReal)) := by
  pointwise [tanhArr]
  rw [ofBits_2048, sqrt_2048, div_root]

/-- The reference's first result: the tangents where positive, zero elsewhere. -/
def posArr (t : FVec Ideal S2x2048x2048 .f32) : FVec Ideal S2x2048x2048 .f32 :=
  select (cmpf .ogt t (broadcastInDim S2x2048x2048 ![] bcast_S_S2x2048x2048 (constant (F := Ideal) S_ .f32 0x00000000#32))) t
    (broadcastInDim S2x2048x2048 ![] bcast_S_S2x2048x2048 (constant (F := Ideal) S_ .f32 0x00000000#32))
/-- The reference's second result: the tangents where negative, zero elsewhere. -/
def negArr (t : FVec Ideal S2x2048x2048 .f32) : FVec Ideal S2x2048x2048 .f32 :=
  select (cmpf .olt t (broadcastInDim S2x2048x2048 ![] bcast_S_S2x2048x2048 (constant (F := Ideal) S_ .f32 0x00000000#32))) t
    (broadcastInDim S2x2048x2048 ![] bcast_S_S2x2048x2048 (constant (F := Ideal) S_ .f32 0x00000000#32))

/-- The first selection is the maximum with zero. -/
theorem posArr_at (t : FVec Ideal S2x2048x2048 .f32) (b : Fin 2) (i j : Fin 2048) : posArr t (ix3 b i j) = max (t (ix3 b i j)) 0 := by
  pointwise [posArr]
  split_ifs with h
  · exact (max_eq_left (le_of_lt h)).symm
  · exact (max_eq_right (not_lt.mp h)).symm

/-- The second selection is the minimum with zero. -/
theorem negArr_at (t : FVec Ideal S2x2048x2048 .f32) (b : Fin 2) (i j : Fin 2048) : negArr t (ix3 b i j) = min (t (ix3 b i j)) 0 := by
  pointwise [negArr]
  split_ifs with h
  · exact (min_eq_left (le_of_lt h)).symm
  · exact (min_eq_right (not_lt.mp h)).symm

/-- The reference's first result from the five arguments. -/
def res0 : FVec Ideal S2x2048x2048 .f32 := posArr (tanhArr (projArr X Wq βq) (projArr X Wk βk))
/-- The reference's second result from the five arguments. -/
def res1 : FVec Ideal S2x2048x2048 .f32 := negArr (tanhArr (projArr X Wq βq) (projArr X Wk βk))

/-- The tangents of the reference are those of the scaled scores. -/
theorem tanh_score (b : Fin 2) (i j : Fin 2048) :
    tanhArr (projArr X Wq βq) (projArr X Wk βk) (ix3 b i j) = Ideal.tanh (score X Wq βq Wk βk b i j) := by
  rw [tanhArr_at]
  unfold score
  simp only [projArr_at]

/-- The first result at an index. -/
theorem res0_at (b : Fin 2) (i j : Fin 2048) : res0 X Wq Wk βq βk (ix3 b i j) = max (Ideal.tanh (score X Wq βq Wk βk b i j)) 0 :=
  (posArr_at _ b i j).trans (congrArg (max · 0) (tanh_score X Wq Wk βq βk b i j))
/-- The second result at an index. -/
theorem res1_at (b : Fin 2) (i j : Fin 2048) : res1 X Wq Wk βq βk (ix3 b i j) = min (Ideal.tanh (score X Wq βq Wk βk b i j)) 0 :=
  (negArr_at _ b i j).trans (congrArg (min · 0) (tanh_score X Wq Wk βq βk b i j))

/-- The reference's run with its results named. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v19)
        = res0 (m ((c.tc : Thread nD τ).loc main_arg0)) (m ((c.tc : Thread nD τ).loc main_arg1)) (m ((c.tc : Thread nD τ).loc main_arg3))
            (m ((c.tc : Thread nD τ).loc main_arg2)) (m ((c.tc : Thread nD τ).loc main_arg4))
      ∧ r.2.mem ((c.tc : Thread nD τ).loc main_v23)
        = res1 (m ((c.tc : Thread nD τ).loc main_arg0)) (m ((c.tc : Thread nD τ).loc main_arg1)) (m ((c.tc : Thread nD τ).loc main_arg3))
            (m ((c.tc : Thread nD τ).loc main_arg2)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Cert.ReferenceIdeal.Value.run (F := Ideal) m ρ

end Cert.Proof.RI

end
-- ==== Proof.lean ====
/-
  The proof of `Cert.Claim`: the kernel and its idealization run, end with their arguments as they were and every counter at
  zero; so does the reference; the idealization names one constant; and in exact arithmetic the idealized kernel's two
  results are the reference's.
-/
module

public import proofs.«01_k».proof.Defs
public import proofs.«01_k».proof.Proof.K.Run
public import proofs.«01_k».proof.Proof.KI.Exact
public import proofs.«01_k».proof.Proof.Reference
public import Idealize.ShloMosaic.Lib.Quiescent

@[expose] public section

set_option maxRecDepth 16384

noncomputable section

namespace Cert.Proof

open Idealize.ShloMosaic Idealize.ShloMosaic.TcCoe Idealize.SL.Sem

/-- The kernel runs, with its arguments unchanged and every counter at zero. -/
theorem frame_p : Cert.quiescent_Kernel := fun m ρ _ => Cert.Proof.K.frame m ρ

/-- So does its idealization. -/
theorem frame_pi : Cert.quiescent_KernelIdeal := fun m ρ _ => Cert.Proof.KI.frame m ρ

/-- So does the reference, which has no counters. -/
theorem frame_ri : Cert.quiescent_ReferenceIdeal := fun m ρ _ =>
  (θ_run Cert.ReferenceIdeal.defs _ _).mono (fun r h => ⟨fun c => (h c).2.2, sem_eq_zero_of_no_sems (by decide) r.2⟩)
    (Cert.Proof.RI.run m ρ)

/-- The named constant is the inverse root of 2048, by the table of names. -/
theorem preserves : Cert.preserves_Kernel_KernelIdeal :=
  IdealRules.named_const.statement Cert.KernelIdeal.κ "scale" .f32 0x3CB504F3#32 (((Real.sqrt 2048)⁻¹ : ℝ) : EReal) rfl

/-- The first result of the reference is that of the idealized kernel. -/
theorem result0 (m : (ℓ : Loc Cert.KernelIdeal.nD Cert.KernelIdeal.τ Cert.KernelIdeal.sig) → Buf (Elt Ideal) ℓ) (c : Dev Cert.KernelIdeal.nD) :
    RI.res0 (KI.argX m c) (KI.argWq m c) (KI.argWk m c) (KI.argBq m c) (KI.argBk m c) = KI.arr6 m c := by
  funext i
  idx_vars i
  exact (RI.res0_at _ _ _ _ _ _ _ _).trans (KI.arr6_at m c _ _ _).symm

/-- The second result of the reference is that of the idealized kernel. -/
theorem result1 (m : (ℓ : Loc Cert.KernelIdeal.nD Cert.KernelIdeal.τ Cert.KernelIdeal.sig) → Buf (Elt Ideal) ℓ) (c : Dev Cert.KernelIdeal.nD) :
    RI.res1 (KI.argX m c) (KI.argWq m c) (KI.argWk m c) (KI.argBq m c) (KI.argBk m c) = KI.arr7 m c := by
  funext i
  idx_vars i
  exact (RI.res1_at _ _ _ _ _ _ _ _).trans (KI.arr7_at m c _ _ _).symm

/-- In exact arithmetic the idealized kernel and the reference end with equal results. -/
theorem algebraic : Cert.algebraic_KernelIdeal_ReferenceIdeal := by
  intro m g m' g' _ hagree
  refine ⟨fun c => KI.arr6 m c, fun c => KI.arr7 m c, KI.run (F := Ideal) m g, ?_⟩
  refine (θ_run Cert.ReferenceIdeal.defs _ _).mono (fun r h c => ⟨(h c).1.trans ?_, (h c).2.1.trans ?_, (h c).2.2⟩) (RI.run m' g')
  · rw [(hagree c).1, (hagree c).2.1, (hagree c).2.2.1, (hagree c).2.2.2.1, (hagree c).2.2.2.2]
    exact result0 m c
  · rw [(hagree c).1, (hagree c).2.1, (hagree c).2.2.1, (hagree c).2.2.2.1, (hagree c).2.2.2.2]
    exact result1 m c

/-- Everything claimed. -/
theorem claim : Cert.Claim :=
  ⟨Cert.Kernel.Gen.facts, Cert.KernelIdeal.Gen.facts, Cert.ReferenceIdeal.Gen.facts, frame_p, frame_pi, frame_ri, preserves, algebraic⟩

end Cert.Proof

end
